-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v5) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v8_0)) (v1 : (c : Dev Cert.Kernel.nD) → Buf (Elt Bits) ((c.tc : Thread Cert.Kernel.nD Cert.Kernel.τ).loc Cert.Kernel.main_v8_1)) (v2 : (c : Dev Cert.Kernel.nD) → Buf (Elt Bits) ((c.tc : Thread Cert.Kernel.nD Cert.Kernel.τ).loc Cert.Kernel.main_v8_2)) (v3 : (c : Dev Cert.Kernel.nD) → Buf (Elt Bits) ((c.tc : Thread Cert.Kernel.nD Cert.Kernel.τ).loc Cert.Kernel.main_v5)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v8_0) = v0 c
          ∧ r.2.mem ((c.tc : Thread Cert.Kernel.nD Cert.Kernel.τ).loc Cert.Kernel.main_v8_1) = v1 c
          ∧ r.2.mem ((c.tc : Thread Cert.Kernel.nD Cert.Kernel.τ).loc Cert.Kernel.main_v8_2) = v2 c
          ∧ r.2.mem ((c.tc : Thread Cert.Kernel.nD Cert.Kernel.τ).loc Cert.Kernel.main_v5) = v3 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v9) = v0 c
          ∧ r.2.mem ((c.tc : Thread Cert.Reference.nD Cert.Reference.τ).loc Cert.Reference.main_v11) = v1 c
          ∧ r.2.mem ((c.tc : Thread Cert.Reference.nD Cert.Reference.τ).loc Cert.Reference.main_v13) = v2 c
          ∧ r.2.mem ((c.tc : Thread Cert.Reference.nD Cert.Reference.τ).loc Cert.Reference.main_v5) = v3 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S13x8x256x512 : Shape := ⟨4, ![13, 8, 256, 512]⟩
abbrev S8x256x512 : Shape := ⟨3, ![8, 256, 512]⟩
abbrev S1 : Shape := ⟨1, ![1]⟩
abbrev S_ : Shape := ⟨0, ![]⟩
abbrev S8 : Shape := ⟨1, ![8]⟩
abbrev S1x8x256x512 : Shape := ⟨4, ![1, 8, 256, 512]⟩

abbrev nBuf : Space → Nat
  | .hbm => 17
  | .vmem => 0
  | .smem => 1
  | _ => 0

abbrev bufTy : (tb : Table) → Fin (tcTables nBuf tb) → BufTy
  | .hbm, ⟨0, _⟩ => ⟨S13x8x256x512, .f32⟩
  | .hbm, ⟨1, _⟩ => ⟨S8x256x512, .f32⟩
  | .hbm, ⟨2, _⟩ => ⟨S1, .f32⟩
  | .hbm, ⟨3, _⟩ => ⟨S_, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i1⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .i32⟩
  | .hbm, ⟨13, _⟩ => ⟨S1, .i32⟩
  | .hbm, ⟨14, _⟩ => ⟨S13x8x256x512, .f32⟩
  | .hbm, ⟨15, _⟩ => ⟨S8x256x512, .f32⟩
  | .hbm, ⟨16, _⟩ => ⟨S8x256x512, .f32⟩
  | .local _ .smem, ⟨0, _⟩ => ⟨S1, .i32⟩
  | _, _ => ⟨S13x8x256x512, .f32⟩

abbrev bufScoped : (cs : CoreSpace) → Fin (nBuf (.core cs)) → Bool
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference.lean ====
abbrev S13x8x256x512 : Shape := ⟨4, ![13, 8, 256, 512]⟩
abbrev S8x256x512 : Shape := ⟨3, ![8, 256, 512]⟩
abbrev S1 : Shape := ⟨1, ![1]⟩
abbrev S_ : Shape := ⟨0, ![]⟩
abbrev S12x8x256x512 : Shape := ⟨4, ![12, 8, 256, 512]⟩
abbrev S1x8x256x512 : Shape := ⟨4, ![1, 8, 256, 512]⟩

abbrev nBuf : Space → Nat
  | .hbm => 20
  | .vmem => 0
  | .smem => 0
  | _ => 0

abbrev bufTy : (tb : Table) → Fin (tcTables nBuf tb) → BufTy
  | .hbm, ⟨0, _⟩ => ⟨S13x8x256x512, .f32⟩
  | .hbm, ⟨1, _⟩ => ⟨S8x256x512, .f32⟩
  | .hbm, ⟨2, _⟩ => ⟨S1, .f32⟩
  | .hbm, ⟨3, _⟩ => ⟨S_, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i1⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S12x8x256x512, .f32⟩
  | .hbm, ⟨13, _⟩ => ⟨S1x8x256x512, .f32⟩
  | .hbm, ⟨14, _⟩ => ⟨S13x8x256x512, .f32⟩
  | .hbm, ⟨15, _⟩ => ⟨S13x8x256x512, .f32⟩
  | .hbm, ⟨16, _⟩ => ⟨S1x8x256x512, .f32⟩
  | .hbm, ⟨17, _⟩ => ⟨S8x256x512, .f32⟩
  | .hbm, ⟨18, _⟩ => ⟨S1x8x256x512, .f32⟩
  | .hbm, ⟨19, _⟩ => ⟨S8x256x512, .f32⟩
  | _, _ => ⟨S13x8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Body.lean ====
/- The kernel's body, run branch by branch: fifteen copies of one slab each, started together and waited for together. -/
module

public import proofs.«01_k».proof.Proof.Gen.Kernel.Frame
public import proofs.«01_k».proof.Proof.Gen.Kernel.Skeleton
public import Idealize.ShloMosaic.Lib.Pipeline.Routed
public import Idealize.ShloMosaic.Lib.Batch

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions' type: the pipeline library's algebra beside the counters the copies' records draw on. -/
local notation "𝕄" => MT nD τ sig Unit (Elt F) ℕ (Pipeline.UC sig nD τ) ℕ

/-- The state array, the newest slab, the updated state, and the two slabs handed out. -/
abbrev mP : Memref sig .tc .hbm S13x8x256x512 .f32 := Memref.whole main_arg0
abbrev mL : Memref sig .tc .hbm S8x256x512 .f32 := Memref.whole main_arg1
abbrev mU : Memref sig .tc .hbm S13x8x256x512 .f32 := Memref.whole main_v8_0
abbrev mD : Memref sig .tc .hbm S8x256x512 .f32 := Memref.whole main_v8_1
abbrev mZ : Memref sig .tc .hbm S8x256x512 .f32 := Memref.whole main_v8_2

/-- Slab `k` of a state array. -/
abbrev slab (M : Memref sig .tc .hbm S13x8x256x512 .f32) (k : ℕ)
    (h : ∀ a, (![k, 0, 0, 0] : Fin 4 → Nat) a + S1x8x256x512.size a ≤ S13x8x256x512.size a) : Memref sig .tc .hbm S8x256x512 .f32 :=
  (M.slice (Rect.unit (s := S13x8x256x512) ![k, 0, 0, 0] S1x8x256x512.size h) (fun _ => rfl)).squeeze S8x256x512 squeezes_S1x8x256x512_S8x256x512

/-- A buffer's contents on the elements under a view, at a share. -/
abbrev own (c : Dev nD) (q : PosShare TreeShare) (M : Memref sig .tc .hbm S8x256x512 .f32) (f : Buf (Elt F) (M.view.loc (c : Thread nD τ))) : sProp 𝕄 :=
  M.view.loc (c : Thread nD τ) ↦[M.view.set]{q} f

/-- What a copy leaves under its destination's view: the source's words. -/
abbrev landed (c : Dev nD) (src dst : Memref sig .tc .hbm S8x256x512 .f32) (fs : Buf (Elt F) (src.view.loc (c : Thread nD τ)))
    (fd : Buf (Elt F) (dst.view.loc (c : Thread nD τ))) : Buf (Elt F) (dst.view.loc (c : Thread nD τ)) :=
  dst.view.writes (Elt F) fd [⟨Rect.whole S8x256x512, ReadAs.same.apply (src.view.read (Elt F) fs)⟩]

abbrev qL : PosShare TreeShare := (fullShare : PosShare TreeShare).left
abbrev qR : PosShare TreeShare := (fullShare : PosShare TreeShare).right

abbrev sem0 (c : Dev nD) (k : DmaSem sig) : sProp 𝕄 := semVal ((c : Thread nD τ), SemLoc.dma k) 0

/-- The step that shifts: the twelve newer slabs move down one place, the newest slab comes in at the end; the first slab and the last are handed out. -/
theorem run_shift (c : Dev nD) (arg0 : Memref sig .tc .smem S1 .i32) (harg0 : arg0.IsWhole)
    (f0 : Buf (Elt F) (arg0.view.loc (c : Thread nD τ)))
    (hw : (arg0.view.readAt (Elt F) (Rect.unit (s := S1) ![0] S1.size inb_S1_S1_0) f0) = fun _ => 1#32)
    (fP : Buf (Elt F) (mP.view.loc (c : Thread nD τ))) (fL : Buf (Elt F) (mL.view.loc (c : Thread nD τ)))
    (fU : Buf (Elt F) (mU.view.loc (c : Thread nD τ))) (fD : Buf (Elt F) (mD.view.loc (c : Thread nD τ)))
    (fZ : Buf (Elt F) (mZ.view.loc (c : Thread nD τ))) (W : Waits sig Unit) :
    iprop((arg0.view.loc (c : Thread nD τ) ↦[arg0.view.set]{fullShare} f0)
        ∗ own c qL (slab mP 1 inb_S13x8x256x512_S1x8x256x512_1_0_0_0) fP
        ∗ own c fullShare (slab mP 2 inb_S13x8x256x512_S1x8x256x512_2_0_0_0) fP
        ∗ own c fullShare (slab mP 3 inb_S13x8x256x512_S1x8x256x512_3_0_0_0) fP
        ∗ own c fullShare (slab mP 4 inb_S13x8x256x512_S1x8x256x512_4_0_0_0) fP
        ∗ own c fullShare (slab mP 5 inb_S13x8x256x512_S1x8x256x512_5_0_0_0) fP
        ∗ own c fullShare (slab mP 6 inb_S13x8x256x512_S1x8x256x512_6_0_0_0) fP
        ∗ own c fullShare (slab mP 7 inb_S13x8x256x512_S1x8x256x512_7_0_0_0) fP
        ∗ own c fullShare (slab mP 8 inb_S13x8x256x512_S1x8x256x512_8_0_0_0) fP
        ∗ own c fullShare (slab mP 9 inb_S13x8x256x512_S1x8x256x512_9_0_0_0) fP
        ∗ own c fullShare (slab mP 10 inb_S13x8x256x512_S1x8x256x512_10_0_0_0) fP
        ∗ own c fullShare (slab mP 11 inb_S13x8x256x512_S1x8x256x512_11_0_0_0) fP
        ∗ own c fullShare (slab mP 12 inb_S13x8x256x512_S1x8x256x512_12_0_0_0) fP
        ∗ own c qL (mL) fL
        ∗ own c qR (slab mP 1 inb_S13x8x256x512_S1x8x256x512_1_0_0_0) fP
        ∗ own c qR (mL) fL
        ∗ own c fullShare (slab mU 0 inb_S13x8x256x512_S1x8x256x512_0_0_0_0) fU
        ∗ own c fullShare (slab mU 1 inb_S13x8x256x512_S1x8x256x512_1_0_0_0) fU
        ∗ own c fullShare (slab mU 2 inb_S13x8x256x512_S1x8x256x512_2_0_0_0) fU
        ∗ own c fullShare (slab mU 3 inb_S13x8x256x512_S1x8x256x512_3_0_0_0) fU
        ∗ own c fullShare (slab mU 4 inb_S13x8x256x512_S1x8x256x512_4_0_0_0) fU
        ∗ own c fullShare (slab mU 5 inb_S13x8x256x512_S1x8x256x512_5_0_0_0) fU
        ∗ own c fullShare (slab mU 6 inb_S13x8x256x512_S1x8x256x512_6_0_0_0) fU
        ∗ own c fullShare (slab mU 7 inb_S13x8x256x512_S1x8x256x512_7_0_0_0) fU
        ∗ own c fullShare (slab mU 8 inb_S13x8x256x512_S1x8x256x512_8_0_0_0) fU
        ∗ own c fullShare (slab mU 9 inb_S13x8x256x512_S1x8x256x512_9_0_0_0) fU
        ∗ own c fullShare (slab mU 10 inb_S13x8x256x512_S1x8x256x512_10_0_0_0) fU
        ∗ own c fullShare (slab mU 11 inb_S13x8x256x512_S1x8x256x512_11_0_0_0) fU
        ∗ own c fullShare (slab mU 12 inb_S13x8x256x512_S1x8x256x512_12_0_0_0) fU
        ∗ own c fullShare (mD) fD
        ∗ own c fullShare (mZ) fZ
        ∗ sem0 c 1
        ∗ sem0 c 2
        ∗ sem0 c 3
        ∗ sem0 c 4
        ∗ sem0 c 5
        ∗ sem0 c 6
        ∗ sem0 c 7
        ∗ sem0 c 8
        ∗ owes (c : Thread nD τ) 0 W)
      ⊢ wp frame (wpE (defs₀ (F := F)) Variants.none (c : Thread nD τ) none) Set.univ
          (cc0__body arg0 harg0 mP (Memref.isWhole_whole _) mL (Memref.isWhole_whole _) mU (Memref.isWhole_whole _)
            mD (Memref.isWhole_whole _) mZ (Memref.isWhole_whole _) cc0_scratch0)
          (fun _ => iprop((arg0.view.loc (c : Thread nD τ) ↦[arg0.view.set]{fullShare} f0)
            ∗ own c qL (slab mP 1 inb_S13x8x256x512_S1x8x256x512_1_0_0_0) fP
            ∗ own c fullShare (slab mP 2 inb_S13x8x256x512_S1x8x256x512_2_0_0_0) fP
            ∗ own c fullShare (slab mP 3 inb_S13x8x256x512_S1x8x256x512_3_0_0_0) fP
            ∗ own c fullShare (slab mP 4 inb_S13x8x256x512_S1x8x256x512_4_0_0_0) fP
            ∗ own c fullShare (slab mP 5 inb_S13x8x256x512_S1x8x256x512_5_0_0_0) fP
            ∗ own c fullShare (slab mP 6 inb_S13x8x256x512_S1x8x256x512_6_0_0_0) fP
            ∗ own c fullShare (slab mP 7 inb_S13x8x256x512_S1x8x256x512_7_0_0_0) fP
            ∗ own c fullShare (slab mP 8 inb_S13x8x256x512_S1x8x256x512_8_0_0_0) fP
            ∗ own c fullShare (slab mP 9 inb_S13x8x256x512_S1x8x256x512_9_0_0_0) fP
            ∗ own c fullShare (slab mP 10 inb_S13x8x256x512_S1x8x256x512_10_0_0_0) fP
            ∗ own c fullShare (slab mP 11 inb_S13x8x256x512_S1x8x256x512_11_0_0_0) fP
            ∗ own c fullShare (slab mP 12 inb_S13x8x256x512_S1x8x256x512_12_0_0_0) fP
            ∗ own c qL (mL) fL
            ∗ own c qR (slab mP 1 inb_S13x8x256x512_S1x8x256x512_1_0_0_0) fP
            ∗ own c qR (mL) fL
            ∗ own c fullShare (slab mU 0 inb_S13x8x256x512_S1x8x256x512_0_0_0_0) (landed c (slab mP 1 inb_S13x8x256x512_S1x8x256x512_1_0_0_0) (slab mU 0 inb_S13x8x256x512_S1x8x256x512_0_0_0_0) fP fU)
            ∗ own c fullShare (slab mU 1 inb_S13x8x256x512_S1x8x256x512_1_0_0_0) (landed c (slab mP 2 inb_S13x8x256x512_S1x8x256x512_2_0_0_0) (slab mU 1 inb_S13x8x256x512_S1x8x256x512_1_0_0_0) fP fU)
            ∗ own c fullShare (slab mU 2 inb_S13x8x256x512_S1x8x256x512_2_0_0_0) (landed c (slab mP 3 inb_S13x8x256x512_S1x8x256x512_3_0_0_0) (slab mU 2 inb_S13x8x256x512_S1x8x256x512_2_0_0_0) fP fU)
            ∗ own c fullShare (slab mU 3 inb_S13x8x256x512_S1x8x256x512_3_0_0_0) (landed c (slab mP 4 inb_S13x8x256x512_S1x8x256x512_4_0_0_0) (slab mU 3 inb_S13x8x256x512_S1x8x256x512_3_0_0_0) fP fU)
            ∗ own c fullShare (slab mU 4 inb_S13x8x256x512_S1x8x256x512_4_0_0_0) (landed c (slab mP 5 inb_S13x8x256x512_S1x8x256x512_5_0_0_0) (slab mU 4 inb_S13x8x256x512_S1x8x256x512_4_0_0_0) fP fU)
            ∗ own c fullShare (slab mU 5 inb_S13x8x256x512_S1x8x256x512_5_0_0_0) (landed c (slab mP 6 inb_S13x8x256x512_S1x8x256x512_6_0_0_0) (slab mU 5 inb_S13x8x256x512_S1x8x256x512_5_0_0_0) fP fU)
            ∗ own c fullShare (slab mU 6 inb_S13x8x256x512_S1x8x256x512_6_0_0_0) (landed c (slab mP 7 inb_S13x8x256x512_S1x8x256x512_7_0_0_0) (slab mU 6 inb_S13x8x256x512_S1x8x256x512_6_0_0_0) fP fU)
            ∗ own c fullShare (slab mU 7 inb_S13x8x256x512_S1x8x256x512_7_0_0_0) (landed c (slab mP 8 inb_S13x8x256x512_S1x8x256x512_8_0_0_0) (slab mU 7 inb_S13x8x256x512_S1x8x256x512_7_0_0_0) fP fU)
            ∗ own c fullShare (slab mU 8 inb_S13x8x256x512_S1x8x256x512_8_0_0_0) (landed c (slab mP 9 inb_S13x8x256x512_S1x8x256x512_9_0_0_0) (slab mU 8 inb_S13x8x256x512_S1x8x256x512_8_0_0_0) fP fU)
            ∗ own c fullShare (slab mU 9 inb_S13x8x256x512_S1x8x256x512_9_0_0_0) (landed c (slab mP 10 inb_S13x8x256x512_S1x8x256x512_10_0_0_0) (slab mU 9 inb_S13x8x256x512_S1x8x256x512_9_0_0_0) fP fU)
            ∗ own c fullShare (slab mU 10 inb_S13x8x256x512_S1x8x256x512_10_0_0_0) (landed c (slab mP 11 inb_S13x8x256x512_S1x8x256x512_11_0_0_0) (slab mU 10 inb_S13x8x256x512_S1x8x256x512_10_0_0_0) fP fU)
            ∗ own c fullShare (slab mU 11 inb_S13x8x256x512_S1x8x256x512_11_0_0_0) (landed c (slab mP 12 inb_S13x8x256x512_S1x8x256x512_12_0_0_0) (slab mU 11 inb_S13x8x256x512_S1x8x256x512_11_0_0_0) fP fU)
            ∗ own c fullShare (slab mU 12 inb_S13x8x256x512_S1x8x256x512_12_0_0_0) (landed c (mL) (slab mU 12 inb_S13x8x256x512_S1x8x256x512_12_0_0_0) fL fU)
            ∗ own c fullShare (mD) (landed c (slab mP 1 inb_S13x8x256x512_S1x8x256x512_1_0_0_0) (mD) fP fD)
            ∗ own c fullShare (mZ) (landed c (mL) (mZ) fL fZ)
            ∗ sem0 c 1
            ∗ sem0 c 2
            ∗ sem0 c 3
            ∗ sem0 c 4
            ∗ sem0 c 5
            ∗ sem0 c 6
            ∗ sem0 c 7
            ∗ sem0 c 8
            ∗ ∃ W, owes (c : Thread nD τ) 0 W)) := by
  have b1 : Transfers.BatchOf (c : Thread nD τ) (SemLoc.dma (sig := sig) 1) 2 := trivial
  have b2 : Transfers.BatchOf (c : Thread nD τ) (SemLoc.dma (sig := sig) 2) 2 := trivial
  have b3 : Transfers.BatchOf (c : Thread nD τ) (SemLoc.dma (sig := sig) 3) 2 := trivial
  have b4 : Transfers.BatchOf (c : Thread nD τ) (SemLoc.dma (sig := sig) 4) 2 := trivial
  have b5 : Transfers.BatchOf (c : Thread nD τ) (SemLoc.dma (sig := sig) 5) 2 := trivial
  have b6 : Transfers.BatchOf (c : Thread nD τ) (SemLoc.dma (sig := sig) 6) 2 := trivial
  have b7 : Transfers.BatchOf (c : Thread nD τ) (SemLoc.dma (sig := sig) 7) 2 := trivial
  iintro ⟨H0, HS0, HS1, HS2, HS3, HS4, HS5, HS6, HS7, HS8, HS9, HS10, HS11, HS12, HS13, HS14, HD0, HD1, HD2, HD3, HD4, HD5, HD6, HD7, HD8, HD9, HD10, HD11, HD12, HD13, HD14, Hs1, Hs2, Hs3, Hs4, Hs5, Hs6, Hs7, Hs8, HW⟩
  simp only [cc0__body_eq_skeleton]; unfold cc0__body_skel
  sl_exec (disch := decide)
  sl_step
  isplitl [H0]; · iexact H0
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HD0]; · iexact HD0
  isplitl [HD1]; · iexact HD1
  isplitl [HD2]; · iexact HD2
  isplitl [HD3]; · iexact HD3
  isplitl [HD4]; · iexact HD4
  isplitl [HD5]; · iexact HD5
  isplitl [HD6]; · iexact HD6
  isplitl [HD7]; · iexact HD7
  isplitl [HD8]; · iexact HD8
  isplitl [HD9]; · iexact HD9
  isplitl [HD10]; · iexact HD10
  isplitl [HD11]; · iexact HD11
  isplitl [HD12]; · iexact HD12
  isplitl [HD13]; · iexact HD13
  isplitl [HD14]; · iexact HD14
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  iexists _; iexact HW

/-- The step that keeps: every slab is copied to its own place. -/
theorem run_keep (c : Dev nD) (arg0 : Memref sig .tc .smem S1 .i32) (harg0 : arg0.IsWhole)
    (f0 : Buf (Elt F) (arg0.view.loc (c : Thread nD τ)))
    (hw : (arg0.view.readAt (Elt F) (Rect.unit (s := S1) ![0] S1.size inb_S1_S1_0) f0) = fun _ => 0#32)
    (fP : Buf (Elt F) (mP.view.loc (c : Thread nD τ))) (fL : Buf (Elt F) (mL.view.loc (c : Thread nD τ)))
    (fU : Buf (Elt F) (mU.view.loc (c : Thread nD τ))) (fD : Buf (Elt F) (mD.view.loc (c : Thread nD τ)))
    (fZ : Buf (Elt F) (mZ.view.loc (c : Thread nD τ))) (W : Waits sig Unit) :
    iprop((arg0.view.loc (c : Thread nD τ) ↦[arg0.view.set]{fullShare} f0)
        ∗ own c qL (slab mP 0 inb_S13x8x256x512_S1x8x256x512_0_0_0_0) fP
        ∗ own c fullShare (slab mP 1 inb_S13x8x256x512_S1x8x256x512_1_0_0_0) fP
        ∗ own c fullShare (slab mP 2 inb_S13x8x256x512_S1x8x256x512_2_0_0_0) fP
        ∗ own c fullShare (slab mP 3 inb_S13x8x256x512_S1x8x256x512_3_0_0_0) fP
        ∗ own c fullShare (slab mP 4 inb_S13x8x256x512_S1x8x256x512_4_0_0_0) fP
        ∗ own c fullShare (slab mP 5 inb_S13x8x256x512_S1x8x256x512_5_0_0_0) fP
        ∗ own c fullShare (slab mP 6 inb_S13x8x256x512_S1x8x256x512_6_0_0_0) fP
        ∗ own c fullShare (slab mP 7 inb_S13x8x256x512_S1x8x256x512_7_0_0_0) fP
        ∗ own c fullShare (slab mP 8 inb_S13x8x256x512_S1x8x256x512_8_0_0_0) fP
        ∗ own c fullShare (slab mP 9 inb_S13x8x256x512_S1x8x256x512_9_0_0_0) fP
        ∗ own c fullShare (slab mP 10 inb_S13x8x256x512_S1x8x256x512_10_0_0_0) fP
        ∗ own c fullShare (slab mP 11 inb_S13x8x256x512_S1x8x256x512_11_0_0_0) fP
        ∗ own c qL (slab mP 12 inb_S13x8x256x512_S1x8x256x512_12_0_0_0) fP
        ∗ own c qR (slab mP 0 inb_S13x8x256x512_S1x8x256x512_0_0_0_0) fP
        ∗ own c qR (slab mP 12 inb_S13x8x256x512_S1x8x256x512_12_0_0_0) fP
        ∗ own c fullShare (slab mU 0 inb_S13x8x256x512_S1x8x256x512_0_0_0_0) fU
        ∗ own c fullShare (slab mU 1 inb_S13x8x256x512_S1x8x256x512_1_0_0_0) fU
        ∗ own c fullShare (slab mU 2 inb_S13x8x256x512_S1x8x256x512_2_0_0_0) fU
        ∗ own c fullShare (slab mU 3 inb_S13x8x256x512_S1x8x256x512_3_0_0_0) fU
        ∗ own c fullShare (slab mU 4 inb_S13x8x256x512_S1x8x256x512_4_0_0_0) fU
        ∗ own c fullShare (slab mU 5 inb_S13x8x256x512_S1x8x256x512_5_0_0_0) fU
        ∗ own c fullShare (slab mU 6 inb_S13x8x256x512_S1x8x256x512_6_0_0_0) fU
        ∗ own c fullShare (slab mU 7 inb_S13x8x256x512_S1x8x256x512_7_0_0_0) fU
        ∗ own c fullShare (slab mU 8 inb_S13x8x256x512_S1x8x256x512_8_0_0_0) fU
        ∗ own c fullShare (slab mU 9 inb_S13x8x256x512_S1x8x256x512_9_0_0_0) fU
        ∗ own c fullShare (slab mU 10 inb_S13x8x256x512_S1x8x256x512_10_0_0_0) fU
        ∗ own c fullShare (slab mU 11 inb_S13x8x256x512_S1x8x256x512_11_0_0_0) fU
        ∗ own c fullShare (slab mU 12 inb_S13x8x256x512_S1x8x256x512_12_0_0_0) fU
        ∗ own c fullShare (mD) fD
        ∗ own c fullShare (mZ) fZ
        ∗ sem0 c 1
        ∗ sem0 c 2
        ∗ sem0 c 3
        ∗ sem0 c 4
        ∗ sem0 c 5
        ∗ sem0 c 6
        ∗ sem0 c 7
        ∗ sem0 c 8
        ∗ owes (c : Thread nD τ) 0 W)
      ⊢ wp frame (wpE (defs₀ (F := F)) Variants.none (c : Thread nD τ) none) Set.univ
          (cc0__body arg0 harg0 mP (Memref.isWhole_whole _) mL (Memref.isWhole_whole _) mU (Memref.isWhole_whole _)
            mD (Memref.isWhole_whole _) mZ (Memref.isWhole_whole _) cc0_scratch0)
          (fun _ => iprop((arg0.view.loc (c : Thread nD τ) ↦[arg0.view.set]{fullShare} f0)
            ∗ own c qL (slab mP 0 inb_S13x8x256x512_S1x8x256x512_0_0_0_0) fP
            ∗ own c fullShare (slab mP 1 inb_S13x8x256x512_S1x8x256x512_1_0_0_0) fP
            ∗ own c fullShare (slab mP 2 inb_S13x8x256x512_S1x8x256x512_2_0_0_0) fP
            ∗ own c fullShare (slab mP 3 inb_S13x8x256x512_S1x8x256x512_3_0_0_0) fP
            ∗ own c fullShare (slab mP 4 inb_S13x8x256x512_S1x8x256x512_4_0_0_0) fP
            ∗ own c fullShare (slab mP 5 inb_S13x8x256x512_S1x8x256x512_5_0_0_0) fP
            ∗ own c fullShare (slab mP 6 inb_S13x8x256x512_S1x8x256x512_6_0_0_0) fP
            ∗ own c fullShare (slab mP 7 inb_S13x8x256x512_S1x8x256x512_7_0_0_0) fP
            ∗ own c fullShare (slab mP 8 inb_S13x8x256x512_S1x8x256x512_8_0_0_0) fP
            ∗ own c fullShare (slab mP 9 inb_S13x8x256x512_S1x8x256x512_9_0_0_0) fP
            ∗ own c fullShare (slab mP 10 inb_S13x8x256x512_S1x8x256x512_10_0_0_0) fP
            ∗ own c fullShare (slab mP 11 inb_S13x8x256x512_S1x8x256x512_11_0_0_0) fP
            ∗ own c qL (slab mP 12 inb_S13x8x256x512_S1x8x256x512_12_0_0_0) fP
            ∗ own c qR (slab mP 0 inb_S13x8x256x512_S1x8x256x512_0_0_0_0) fP
            ∗ own c qR (slab mP 12 inb_S13x8x256x512_S1x8x256x512_12_0_0_0) fP
            ∗ own c fullShare (slab mU 0 inb_S13x8x256x512_S1x8x256x512_0_0_0_0) (landed c (slab mP 0 inb_S13x8x256x512_S1x8x256x512_0_0_0_0) (slab mU 0 inb_S13x8x256x512_S1x8x256x512_0_0_0_0) fP fU)
            ∗ own c fullShare (slab mU 1 inb_S13x8x256x512_S1x8x256x512_1_0_0_0) (landed c (slab mP 1 inb_S13x8x256x512_S1x8x256x512_1_0_0_0) (slab mU 1 inb_S13x8x256x512_S1x8x256x512_1_0_0_0) fP fU)
            ∗ own c fullShare (slab mU 2 inb_S13x8x256x512_S1x8x256x512_2_0_0_0) (landed c (slab mP 2 inb_S13x8x256x512_S1x8x256x512_2_0_0_0) (slab mU 2 inb_S13x8x256x512_S1x8x256x512_2_0_0_0) fP fU)
            ∗ own c fullShare (slab mU 3 inb_S13x8x256x512_S1x8x256x512_3_0_0_0) (landed c (slab mP 3 inb_S13x8x256x512_S1x8x256x512_3_0_0_0) (slab mU 3 inb_S13x8x256x512_S1x8x256x512_3_0_0_0) fP fU)
            ∗ own c fullShare (slab mU 4 inb_S13x8x256x512_S1x8x256x512_4_0_0_0) (landed c (slab mP 4 inb_S13x8x256x512_S1x8x256x512_4_0_0_0) (slab mU 4 inb_S13x8x256x512_S1x8x256x512_4_0_0_0) fP fU)
            ∗ own c fullShare (slab mU 5 inb_S13x8x256x512_S1x8x256x512_5_0_0_0) (landed c (slab mP 5 inb_S13x8x256x512_S1x8x256x512_5_0_0_0) (slab mU 5 inb_S13x8x256x512_S1x8x256x512_5_0_0_0) fP fU)
            ∗ own c fullShare (slab mU 6 inb_S13x8x256x512_S1x8x256x512_6_0_0_0) (landed c (slab mP 6 inb_S13x8x256x512_S1x8x256x512_6_0_0_0) (slab mU 6 inb_S13x8x256x512_S1x8x256x512_6_0_0_0) fP fU)
            ∗ own c fullShare (slab mU 7 inb_S13x8x256x512_S1x8x256x512_7_0_0_0) (landed c (slab mP 7 inb_S13x8x256x512_S1x8x256x512_7_0_0_0) (slab mU 7 inb_S13x8x256x512_S1x8x256x512_7_0_0_0) fP fU)
            ∗ own c fullShare (slab mU 8 inb_S13x8x256x512_S1x8x256x512_8_0_0_0) (landed c (slab mP 8 inb_S13x8x256x512_S1x8x256x512_8_0_0_0) (slab mU 8 inb_S13x8x256x512_S1x8x256x512_8_0_0_0) fP fU)
            ∗ own c fullShare (slab mU 9 inb_S13x8x256x512_S1x8x256x512_9_0_0_0) (landed c (slab mP 9 inb_S13x8x256x512_S1x8x256x512_9_0_0_0) (slab mU 9 inb_S13x8x256x512_S1x8x256x512_9_0_0_0) fP fU)
            ∗ own c fullShare (slab mU 10 inb_S13x8x256x512_S1x8x256x512_10_0_0_0) (landed c (slab mP 10 inb_S13x8x256x512_S1x8x256x512_10_0_0_0) (slab mU 10 inb_S13x8x256x512_S1x8x256x512_10_0_0_0) fP fU)
            ∗ own c fullShare (slab mU 11 inb_S13x8x256x512_S1x8x256x512_11_0_0_0) (landed c (slab mP 11 inb_S13x8x256x512_S1x8x256x512_11_0_0_0) (slab mU 11 inb_S13x8x256x512_S1x8x256x512_11_0_0_0) fP fU)
            ∗ own c fullShare (slab mU 12 inb_S13x8x256x512_S1x8x256x512_12_0_0_0) (landed c (slab mP 12 inb_S13x8x256x512_S1x8x256x512_12_0_0_0) (slab mU 12 inb_S13x8x256x512_S1x8x256x512_12_0_0_0) fP fU)
            ∗ own c fullShare (mD) (landed c (slab mP 0 inb_S13x8x256x512_S1x8x256x512_0_0_0_0) (mD) fP fD)
            ∗ own c fullShare (mZ) (landed c (slab mP 12 inb_S13x8x256x512_S1x8x256x512_12_0_0_0) (mZ) fP fZ)
            ∗ sem0 c 1
            ∗ sem0 c 2
            ∗ sem0 c 3
            ∗ sem0 c 4
            ∗ sem0 c 5
            ∗ sem0 c 6
            ∗ sem0 c 7
            ∗ sem0 c 8
            ∗ ∃ W, owes (c : Thread nD τ) 0 W)) := by
  have b1 : Transfers.BatchOf (c : Thread nD τ) (SemLoc.dma (sig := sig) 1) 2 := trivial
  have b2 : Transfers.BatchOf (c : Thread nD τ) (SemLoc.dma (sig := sig) 2) 2 := trivial
  have b3 : Transfers.BatchOf (c : Thread nD τ) (SemLoc.dma (sig := sig) 3) 2 := trivial
  have b4 : Transfers.BatchOf (c : Thread nD τ) (SemLoc.dma (sig := sig) 4) 2 := trivial
  have b5 : Transfers.BatchOf (c : Thread nD τ) (SemLoc.dma (sig := sig) 5) 2 := trivial
  have b6 : Transfers.BatchOf (c : Thread nD τ) (SemLoc.dma (sig := sig) 6) 2 := trivial
  have b7 : Transfers.BatchOf (c : Thread nD τ) (SemLoc.dma (sig := sig) 7) 2 := trivial
  iintro ⟨H0, HS0, HS1, HS2, HS3, HS4, HS5, HS6, HS7, HS8, HS9, HS10, HS11, HS12, HS13, HS14, HD0, HD1, HD2, HD3, HD4, HD5, HD6, HD7, HD8, HD9, HD10, HD11, HD12, HD13, HD14, Hs1, Hs2, Hs3, Hs4, Hs5, Hs6, Hs7, Hs8, HW⟩
  simp only [cc0__body_eq_skeleton]; unfold cc0__body_skel
  sl_exec (disch := decide)
  sl_step
  isplitl [H0]; · iexact H0
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HD0]; · iexact HD0
  isplitl [HD1]; · iexact HD1
  isplitl [HD2]; · iexact HD2
  isplitl [HD3]; · iexact HD3
  isplitl [HD4]; · iexact HD4
  isplitl [HD5]; · iexact HD5
  isplitl [HD6]; · iexact HD6
  isplitl [HD7]; · iexact HD7
  isplitl [HD8]; · iexact HD8
  isplitl [HD9]; · iexact HD9
  isplitl [HD10]; · iexact HD10
  isplitl [HD11]; · iexact HD11
  isplitl [HD12]; · iexact HD12
  isplitl [HD13]; · iexact HD13
  isplitl [HD14]; · iexact HD14
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  iexists _; iexact HW

end Cert.Kernel.Hand

end
-- ==== Proof.Index.lean ====
/- Slabs of a state array by their indices: a state array has thirteen slabs along its first axis, and an element of it
   is a slab's number beside an index of the slab. -/
module

public import Idealize.ShloMosaic.Lib.Pipeline.Value

@[expose] public section

noncomputable section

namespace Cert.Slabs

open Idealize.ShloMosaic

abbrev Big : Shape := ⟨4, ![13, 8, 256, 512]⟩
abbrev Twelve : Shape := ⟨4, ![12, 8, 256, 512]⟩
abbrev One : Shape := ⟨4, ![1, 8, 256, 512]⟩
abbrev Small : Shape := ⟨3, ![8, 256, 512]⟩

/-- The element of the state array at index `j` of slab `k`. -/
def place (k : Fin 13) (j : Small.Idx) : Big.Idx := Fin.cons (α := fun a : Fin 4 => Fin (Big.size a)) k j

/-- The index within its slab of an element of the state array. -/
def inner (i : Big.Idx) : Small.Idx := fun a => i a.succ

theorem place_inner (i : Big.Idx) : place (i 0) (inner i) = i := Fin.cons_self_tail (α := fun a : Fin 4 => Fin (Big.size a)) i
theorem inner_place (k : Fin 13) (j : Small.Idx) : inner (place k j) = j := rfl

/-- The same, in an array of one slab. -/
def single (j : Small.Idx) : One.Idx := Fin.cons (α := fun a : Fin 4 => Fin (One.size a)) ⟨0, Nat.one_pos⟩ j

variable {α : Type}

/-- The state moved down one place: slab `k` is what slab `k + 1` was, and the last slab is the newest one. -/
def moved (p : Big.Idx → α) (l : Small.Idx → α) : Big.Idx → α := fun i =>
  if h : (i 0).val + 1 < 13 then p (place ⟨(i 0).val + 1, h⟩ (inner i)) else l (inner i)

theorem moved_place_lt (p : Big.Idx → α) (l : Small.Idx → α) (k : Fin 13) (j : Small.Idx) (h : k.val + 1 < 13) :
    moved p l (place k j) = p (place ⟨k.val + 1, h⟩ j) := dif_pos h

theorem moved_place_last (p : Big.Idx → α) (l : Small.Idx → α) (j : Small.Idx) : moved p l (place 12 j) = l j :=
  dif_neg (by decide : ¬ (12 : ℕ) + 1 < 13)

/-- Slab `k` of a state. -/
def slabOf (k : Fin 13) (y : Big.Idx → α) : Small.Idx → α := fun j => y (place k j)

/-- A reshape of one slab with a leading axis of extent one is the slab. -/
theorem reshape_single (h : Small.numel = One.numel) (j : Small.Idx) : Shape.reshapeEquiv (s := One) h j = single j :=
  Shape.reshapeEquiv_cons_one (d := ![8, 256, 512]) h j

/-- One slab cut out of a state array and freed of its leading axis. -/
theorem cut_apply (k : Fin 13) (off : Fin 4 → ℕ) (ho : off = ![k.val, 0, 0, 0]) (x : Big.Idx → α) (hs : Big.Slices off One)
    (hc : One.ShapeCasts Small) (j : Small.Idx) :
    shapeCast Small (extractStridedSlice One off x hs) hc j = x (place k j) := by
  subst ho
  unfold shapeCast
  rw [reshape_single]
  unfold extractStridedSlice
  refine congrArg x (funext fun a => Fin.ext ?_)
  fin_cases a
  · rfl
  · exact Nat.zero_add _
  · exact Nat.zero_add _
  · exact Nat.zero_add _

/-- The last twelve slabs followed by the newest one are the state moved down one place. -/
theorem join_eq (p : Big.Idx → α) (l : Small.Idx → α) (hs : Big.Slices ![1, 0, 0, 0] Twelve)
    (hb : Small.BroadcastsInDim One ![1, 2, 3]) (hc : Shape.Concatenates [Twelve, One] Big 0) :
    concatenate Big 0 [⟨Twelve, extractStridedSlice Twelve ![1, 0, 0, 0] p hs⟩, ⟨One, broadcastInDim One ![1, 2, 3] hb l⟩] hc
      = moved p l := by
  funext i
  unfold moved
  by_cases h : (i 0).val + 1 < 13
  · rw [dif_pos h]
    refine (concatenate_pair_apply_left (t := Big) (s₁ := Twelve) (s₂ := One) 0 _ _ hc i rfl
      (Fin.cons (α := fun a : Fin 4 => Fin (Twelve.size a)) ⟨(i 0).val, by show (i 0).val < 12; omega⟩ (inner i)) ?_).trans ?_
    · intro b; fin_cases b <;> rfl
    · unfold extractStridedSlice
      refine congrArg p (funext fun a => Fin.ext ?_)
      fin_cases a
      · exact Nat.add_comm _ _
      · exact Nat.zero_add _
      · exact Nat.zero_add _
      · exact Nat.zero_add _
  · rw [dif_neg h]
    have h12 : (i 0).val = 12 := by have := (i 0).isLt; change (i 0).val < 13 at this; omega
    refine (concatenate_pair_apply_right (t := Big) (s₁ := Twelve) (s₂ := One) 0 _ _ hc i rfl rfl (single (inner i)) ?_ ?_).trans ?_
    · intro b hb'; fin_cases b
      · exact absurd rfl hb'
      all_goals rfl
    · show 0 + 12 = (i 0).val; omega
    · unfold broadcastInDim
      refine congrArg l (funext fun a => Fin.ext ?_)
      fin_cases a <;> rfl

end Cert.Slabs

end
-- ==== Proof.Slabs.lean ====
/- State arrays held slab by slab, and joined back. -/
module

public import proofs.«01_k».proof.Proof.Body
public import proofs.«01_k».proof.Proof.Index

@[expose] public section

set_option maxRecDepth 16384

noncomputable section

namespace Cert.Kernel.Hand

open Cert.Kernel Cert.Kernel.Gen Cert.Slabs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

/-- Every slab lies within a state array. -/
theorem inbSlab (k : Fin 13) : ∀ a, (![k.val, 0, 0, 0] : Fin 4 → Nat) a + S1x8x256x512.size a ≤ S13x8x256x512.size a := by
  intro a
  fin_cases a
  · exact Nat.succ_le_of_lt k.isLt
  all_goals exact Nat.le_refl _

/-- The elements of slab `k`, as a rectangle of the state array. -/
abbrev slabRect (k : Fin 13) : Rect S13x8x256x512 := Rect.unit (s := S13x8x256x512) ![k.val, 0, 0, 0] S1x8x256x512.size (inbSlab k)

theorem slab_set_P (k : Fin 13) : (slab mP k.val (inbSlab k)).view.set = (slabRect k).set := by
  exact (View.set_reshape _ _).trans (View.set_slice_whole main_arg0 (slabRect k))
theorem slab_set_U (k : Fin 13) : (slab mU k.val (inbSlab k)).view.set = (slabRect k).set := by
  exact (View.set_reshape _ _).trans (View.set_slice_whole main_v8_0 (slabRect k))

theorem slabs_disjoint (k k' : Fin 13) (h : k ≠ k') : Disjoint (slabRect k).set (slabRect k').set :=
  Ring.lead_disjoint (s := S13x8x256x512) (NB := 13) 0 1 (fun b => ![b.val, 0, 0, 0]) S1x8x256x512.size inbSlab
    (fun b => (Nat.one_mul _).symm) rfl k k' h

theorem slabs_cover : Finset.univ.biUnion (fun k => (slabRect k).set) = Finset.univ :=
  Ring.lead_cover (s := S13x8x256x512) (NB := 13) 0 1 (fun b => ![b.val, 0, 0, 0]) S1x8x256x512.size inbSlab
    (fun b => (Nat.one_mul _).symm) (fun b a ha => by fin_cases a <;> first | exact absurd rfl ha | rfl) rfl
    (fun a ha => by fin_cases a <;> first | exact absurd rfl ha | rfl) rfl

/-- The state array held whole is its thirteen slabs held each. -/
theorem slabs_P (c : Dev nD) (f : Buf (Elt F) (mP.view.loc (c : Thread nD τ))) :
    (mP.view.loc (c : Thread nD τ) ↦{fullShare} f : sProp 𝕄)
      = iprop(own c fullShare (slab mP 0 inb_S13x8x256x512_S1x8x256x512_0_0_0_0) f
          ∗ own c fullShare (slab mP 1 inb_S13x8x256x512_S1x8x256x512_1_0_0_0) f
          ∗ own c fullShare (slab mP 2 inb_S13x8x256x512_S1x8x256x512_2_0_0_0) f
          ∗ own c fullShare (slab mP 3 inb_S13x8x256x512_S1x8x256x512_3_0_0_0) f
          ∗ own c fullShare (slab mP 4 inb_S13x8x256x512_S1x8x256x512_4_0_0_0) f
          ∗ own c fullShare (slab mP 5 inb_S13x8x256x512_S1x8x256x512_5_0_0_0) f
          ∗ own c fullShare (slab mP 6 inb_S13x8x256x512_S1x8x256x512_6_0_0_0) f
          ∗ own c fullShare (slab mP 7 inb_S13x8x256x512_S1x8x256x512_7_0_0_0) f
          ∗ own c fullShare (slab mP 8 inb_S13x8x256x512_S1x8x256x512_8_0_0_0) f
          ∗ own c fullShare (slab mP 9 inb_S13x8x256x512_S1x8x256x512_9_0_0_0) f
          ∗ own c fullShare (slab mP 10 inb_S13x8x256x512_S1x8x256x512_10_0_0_0) f
          ∗ own c fullShare (slab mP 11 inb_S13x8x256x512_S1x8x256x512_11_0_0_0) f
          ∗ own c fullShare (slab mP 12 inb_S13x8x256x512_S1x8x256x512_12_0_0_0) f) := by
  rw [Ring.pointsTo_blocks (fun k : Fin 13 => (slab mP k.val (inbSlab k)).view.set)
    (fun k k' h => by rw [slab_set_P, slab_set_P]; exact slabs_disjoint k k' h)
    (by rw [show (fun k : Fin 13 => (slab mP k.val (inbSlab k)).view.set) = fun k => (slabRect k).set from funext slab_set_P]; exact slabs_cover),
    BI.bigSep_eq_bigSepL_of_eq [0, 1, 2, 3, 4, 5, 6, 7, 8, 9, 10, 11, 12] (by decide) (by decide)]
  rfl

/-- The updated state held whole is its thirteen slabs held each. -/
theorem slabs_U (c : Dev nD) (f : Buf (Elt F) (mU.view.loc (c : Thread nD τ))) :
    (mU.view.loc (c : Thread nD τ) ↦{fullShare} f : sProp 𝕄)
      = iprop(own c fullShare (slab mU 0 inb_S13x8x256x512_S1x8x256x512_0_0_0_0) f
          ∗ own c fullShare (slab mU 1 inb_S13x8x256x512_S1x8x256x512_1_0_0_0) f
          ∗ own c fullShare (slab mU 2 inb_S13x8x256x512_S1x8x256x512_2_0_0_0) f
          ∗ own c fullShare (slab mU 3 inb_S13x8x256x512_S1x8x256x512_3_0_0_0) f
          ∗ own c fullShare (slab mU 4 inb_S13x8x256x512_S1x8x256x512_4_0_0_0) f
          ∗ own c fullShare (slab mU 5 inb_S13x8x256x512_S1x8x256x512_5_0_0_0) f
          ∗ own c fullShare (slab mU 6 inb_S13x8x256x512_S1x8x256x512_6_0_0_0) f
          ∗ own c fullShare (slab mU 7 inb_S13x8x256x512_S1x8x256x512_7_0_0_0) f
          ∗ own c fullShare (slab mU 8 inb_S13x8x256x512_S1x8x256x512_8_0_0_0) f
          ∗ own c fullShare (slab mU 9 inb_S13x8x256x512_S1x8x256x512_9_0_0_0) f
          ∗ own c fullShare (slab mU 10 inb_S13x8x256x512_S1x8x256x512_10_0_0_0) f
          ∗ own c fullShare (slab mU 11 inb_S13x8x256x512_S1x8x256x512_11_0_0_0) f
          ∗ own c fullShare (slab mU 12 inb_S13x8x256x512_S1x8x256x512_12_0_0_0) f) := by
  rw [Ring.pointsTo_blocks (fun k : Fin 13 => (slab mU k.val (inbSlab k)).view.set)
    (fun k k' h => by rw [slab_set_U, slab_set_U]; exact slabs_disjoint k k' h)
    (by rw [show (fun k : Fin 13 => (slab mU k.val (inbSlab k)).view.set) = fun k => (slabRect k).set from funext slab_set_U]; exact slabs_cover),
    BI.bigSep_eq_bigSepL_of_eq [0, 1, 2, 3, 4, 5, 6, 7, 8, 9, 10, 11, 12] (by decide) (by decide)]
  rfl

/-- A whole array of one slab is held by its own elements. -/
theorem own_L (c : Dev nD) (q : PosShare TreeShare) (f : Buf (Elt F) (mL.view.loc (c : Thread nD τ))) :
    (own c q mL f : sProp 𝕄) = (mL.view.loc (c : Thread nD τ) ↦{q} f) := by
  unfold own; rw [show mL.view.set = Finset.univ from View.set_whole main_arg1]
theorem own_D (c : Dev nD) (q : PosShare TreeShare) (f : Buf (Elt F) (mD.view.loc (c : Thread nD τ))) :
    (own c q mD f : sProp 𝕄) = (mD.view.loc (c : Thread nD τ) ↦{q} f) := by
  unfold own; rw [show mD.view.set = Finset.univ from View.set_whole main_v8_1]
theorem own_Z (c : Dev nD) (q : PosShare TreeShare) (f : Buf (Elt F) (mZ.view.loc (c : Thread nD τ))) :
    (own c q mZ f : sProp 𝕄) = (mZ.view.loc (c : Thread nD τ) ↦{q} f) := by
  unfold own; rw [show mZ.view.set = Finset.univ from View.set_whole main_v8_2]

/-- Half and half of a share. -/
theorem own_halves (c : Dev nD) (M : Memref sig .tc .hbm S8x256x512 .f32) (f : Buf (Elt F) (M.view.loc (c : Thread nD τ))) :
    (own c fullShare M f : sProp 𝕄) ⊣⊢ iprop(own c qL M f ∗ own c qR M f) :=
  pointsTo_share (PosShare.mem_left_op_right fullShare)

/-- Contents are known under a view as far as the view reads them. -/
theorem own_of_read (c : Dev nD) (q : PosShare TreeShare) (M : Memref sig .tc .hbm S8x256x512 .f32)
    (f g : Buf (Elt F) (M.view.loc (c : Thread nD τ))) (h : M.view.read (Elt F) f = M.view.read (Elt F) g) :
    (own c q M f : sProp 𝕄) = own c q M g := by
  refine pointsTo_congr fun i hi => ?_
  obtain ⟨x, -, rfl⟩ := Finset.mem_map.mp hi
  have hx := congrFun h x
  unfold View.read at hx
  exact (cast_bijective _).1 hx

/-- Reading back what a copy wrote. -/
theorem read_landed (c : Dev nD) (src dst : Memref sig .tc .hbm S8x256x512 .f32) (fs : Buf (Elt F) (src.view.loc (c : Thread nD τ)))
    (fd : Buf (Elt F) (dst.view.loc (c : Thread nD τ))) :
    dst.view.read (Elt F) (landed c src dst fs fd) = src.view.read (Elt F) fs := by
  funext y
  have hy : (Rect.whole S8x256x512).emb y = y := by
    funext a; apply Fin.ext; show 0 + 1 * (y a).val = _; omega
  have hr := View.read_writes_cons_emb (v := dst.view) (f := fd) (Rect.whole S8x256x512) (ReadAs.same.apply (src.view.read (Elt F) fs)) [] y
  rw [hy] at hr
  exact hr

/-- What a copy left is the source's words. -/
theorem own_landed (c : Dev nD) (src dst : Memref sig .tc .hbm S8x256x512 .f32) (fs : Buf (Elt F) (src.view.loc (c : Thread nD τ)))
    (fd g : Buf (Elt F) (dst.view.loc (c : Thread nD τ))) (h : dst.view.read (Elt F) g = src.view.read (Elt F) fs) :
    (own c fullShare dst (landed c src dst fs fd) : sProp 𝕄) = own c fullShare dst g :=
  own_of_read c _ dst _ _ ((read_landed c src dst fs fd).trans h.symm)

/-- The slab's elements, by a rectangle's index and a reshape: slab number and index. -/
theorem place_idx (k : Fin 13) (h : ∀ a, (![k.val, 0, 0, 0] : Fin 4 → Nat) a + S1x8x256x512.size a ≤ S13x8x256x512.size a)
    (hc : Small.numel = One.numel) (j : Small.Idx) :
    (Rect.unit (s := S13x8x256x512) ![k.val, 0, 0, 0] S1x8x256x512.size h).idx (Shape.reshapeEquiv (s := One) hc j) = place k j := by
  rw [reshape_single]
  funext a; apply Fin.ext
  fin_cases a
  · rfl
  all_goals exact (Nat.zero_add _).trans (Nat.one_mul _)

/-- A slab of the state array, read: the array at the slab's number and the index. -/
theorem read_slab_P (k : Fin 13) (h : ∀ a, (![k.val, 0, 0, 0] : Fin 4 → Nat) a + S1x8x256x512.size a ≤ S13x8x256x512.size a)
    (f : mP.view.ty.Contents (Elt F)) : (slab mP k.val h).view.read (Elt F) f = fun j => f (place k j) :=
  funext fun j => congrArg f (place_idx k h (Shape.Squeezes.numel_eq (by decide)) j)
theorem read_slab_U (k : Fin 13) (h : ∀ a, (![k.val, 0, 0, 0] : Fin 4 → Nat) a + S1x8x256x512.size a ≤ S13x8x256x512.size a)
    (f : mU.view.ty.Contents (Elt F)) : (slab mU k.val h).view.read (Elt F) f = fun j => f (place k j) :=
  funext fun j => congrArg f (place_idx k h (Shape.Squeezes.numel_eq (by decide)) j)

end Cert.Kernel.Hand

end
-- ==== Proof.Whole.lean ====
/- The body over whole arrays: what it holds before and what it leaves, branch by branch. -/
module

public import proofs.«01_k».proof.Proof.Slabs

@[expose] public section

set_option maxRecDepth 16384

noncomputable section

namespace Cert.Kernel.Hand

open Cert.Kernel Cert.Kernel.Gen Cert.Slabs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

/-- A copy of one slab of the state into one slab of the updated state leaves there any array that agrees with it. -/
theorem carried (c : Dev nD) (k k' : ℕ) (hk : k < 13) (hk' : k' < 13)
    (h : ∀ a, (![k, 0, 0, 0] : Fin 4 → Nat) a + S1x8x256x512.size a ≤ S13x8x256x512.size a)
    (h' : ∀ a, (![k', 0, 0, 0] : Fin 4 → Nat) a + S1x8x256x512.size a ≤ S13x8x256x512.size a)
    (fP : Buf (Elt F) (mP.view.loc (c : Thread nD τ))) (fU Y : Buf (Elt F) (mU.view.loc (c : Thread nD τ)))
    (e : ∀ j : Small.Idx, (Y : Big.Idx → Elt F .f32) (place ⟨k, hk⟩ j) = (fP : Big.Idx → Elt F .f32) (place ⟨k', hk'⟩ j)) :
    (own c fullShare (slab mU k h) (landed c (slab mP k' h') (slab mU k h) fP fU) : sProp 𝕄) = own c fullShare (slab mU k h) Y :=
  own_landed c _ _ _ _ _ ((read_slab_U ⟨k, hk⟩ h Y).trans ((funext e).trans (read_slab_P ⟨k', hk'⟩ h' fP).symm))

/-- The newest slab copied into a slab of the updated state. -/
theorem carried_L (c : Dev nD) (k : ℕ) (hk : k < 13)
    (h : ∀ a, (![k, 0, 0, 0] : Fin 4 → Nat) a + S1x8x256x512.size a ≤ S13x8x256x512.size a)
    (fL : Buf (Elt F) (mL.view.loc (c : Thread nD τ))) (fU Y : Buf (Elt F) (mU.view.loc (c : Thread nD τ)))
    (e : ∀ j : Small.Idx, (Y : Big.Idx → Elt F .f32) (place ⟨k, hk⟩ j) = (fL : Small.Idx → Elt F .f32) j) :
    (own c fullShare (slab mU k h) (landed c mL (slab mU k h) fL fU) : sProp 𝕄) = own c fullShare (slab mU k h) Y :=
  own_landed c _ _ _ _ _ ((read_slab_U ⟨k, hk⟩ h Y).trans (funext e))

/-- A slab of the state handed out as the first of the two slabs, and as the second. -/
theorem carried_D (c : Dev nD) (k : ℕ) (hk : k < 13)
    (h : ∀ a, (![k, 0, 0, 0] : Fin 4 → Nat) a + S1x8x256x512.size a ≤ S13x8x256x512.size a)
    (fP : Buf (Elt F) (mP.view.loc (c : Thread nD τ))) (fD Y : Buf (Elt F) (mD.view.loc (c : Thread nD τ)))
    (e : ∀ j : Small.Idx, (Y : Small.Idx → Elt F .f32) j = (fP : Big.Idx → Elt F .f32) (place ⟨k, hk⟩ j)) :
    (own c fullShare mD (landed c (slab mP k h) mD fP fD) : sProp 𝕄) = own c fullShare mD Y :=
  own_landed c _ _ _ _ _ ((funext e : (Y : Small.Idx → Elt F .f32) = _).trans (read_slab_P ⟨k, hk⟩ h fP).symm)
theorem carried_Z (c : Dev nD) (k : ℕ) (hk : k < 13)
    (h : ∀ a, (![k, 0, 0, 0] : Fin 4 → Nat) a + S1x8x256x512.size a ≤ S13x8x256x512.size a)
    (fP : Buf (Elt F) (mP.view.loc (c : Thread nD τ))) (fZ Y : Buf (Elt F) (mZ.view.loc (c : Thread nD τ)))
    (e : ∀ j : Small.Idx, (Y : Small.Idx → Elt F .f32) j = (fP : Big.Idx → Elt F .f32) (place ⟨k, hk⟩ j)) :
    (own c fullShare mZ (landed c (slab mP k h) mZ fP fZ) : sProp 𝕄) = own c fullShare mZ Y :=
  own_landed c _ _ _ _ _ ((funext e : (Y : Small.Idx → Elt F .f32) = _).trans (read_slab_P ⟨k, hk⟩ h fP).symm)
theorem carried_LZ (c : Dev nD) (fL : Buf (Elt F) (mL.view.loc (c : Thread nD τ))) (fZ Y : Buf (Elt F) (mZ.view.loc (c : Thread nD τ)))
    (e : ∀ j : Small.Idx, (Y : Small.Idx → Elt F .f32) j = (fL : Small.Idx → Elt F .f32) j) :
    (own c fullShare mZ (landed c mL mZ fL fZ) : sProp 𝕄) = own c fullShare mZ Y :=
  own_landed c _ _ _ _ _ (funext e)

set_option maxHeartbeats 1600000 in
/-- The step that shifts, over whole arrays: the updated state is the state moved down one place. -/
theorem whole_shift (c : Dev nD) (arg0 : Memref sig .tc .smem S1 .i32) (harg0 : arg0.IsWhole)
    (f0 : Buf (Elt F) (arg0.view.loc (c : Thread nD τ)))
    (hw : (arg0.view.readAt (Elt F) (Rect.unit (s := S1) ![0] S1.size inb_S1_S1_0) f0) = fun _ => 1#32)
    (fP : Buf (Elt F) (mP.view.loc (c : Thread nD τ))) (fL : Buf (Elt F) (mL.view.loc (c : Thread nD τ)))
    (fU : Buf (Elt F) (mU.view.loc (c : Thread nD τ))) (fD : Buf (Elt F) (mD.view.loc (c : Thread nD τ)))
    (fZ : Buf (Elt F) (mZ.view.loc (c : Thread nD τ))) (W : Waits sig Unit) :
    iprop((arg0.view.loc (c : Thread nD τ) ↦[arg0.view.set]{fullShare} f0)
        ∗ (mP.view.loc (c : Thread nD τ) ↦{fullShare} fP) ∗ (mL.view.loc (c : Thread nD τ) ↦{fullShare} fL)
        ∗ (mU.view.loc (c : Thread nD τ) ↦{fullShare} fU) ∗ (mD.view.loc (c : Thread nD τ) ↦{fullShare} fD)
        ∗ (mZ.view.loc (c : Thread nD τ) ↦{fullShare} fZ)
        ∗ sem0 c 1
        ∗ sem0 c 2
        ∗ sem0 c 3
        ∗ sem0 c 4
        ∗ sem0 c 5
        ∗ sem0 c 6
        ∗ sem0 c 7
        ∗ sem0 c 8 ∗ owes (c : Thread nD τ) 0 W)
      ⊢ wp frame (wpE (defs₀ (F := F)) Variants.none (c : Thread nD τ) none) Set.univ
          (cc0__body arg0 harg0 mP (Memref.isWhole_whole _) mL (Memref.isWhole_whole _) mU (Memref.isWhole_whole _)
            mD (Memref.isWhole_whole _) mZ (Memref.isWhole_whole _) cc0_scratch0)
          (fun _ => iprop((arg0.view.loc (c : Thread nD τ) ↦[arg0.view.set]{fullShare} f0)
            ∗ (mP.view.loc (c : Thread nD τ) ↦{fullShare} fP) ∗ (mL.view.loc (c : Thread nD τ) ↦{fullShare} fL)
            ∗ (mU.view.loc (c : Thread nD τ) ↦{fullShare} (moved (α := Elt F .f32) fP fL : Big.Idx → Elt F .f32))
            ∗ (mD.view.loc (c : Thread nD τ) ↦{fullShare} slabOf (α := Elt F .f32) 0 (moved (α := Elt F .f32) fP fL))
            ∗ (mZ.view.loc (c : Thread nD τ) ↦{fullShare} slabOf (α := Elt F .f32) 12 (moved (α := Elt F .f32) fP fL))
            ∗ sem0 c 1
        ∗ sem0 c 2
        ∗ sem0 c 3
        ∗ sem0 c 4
        ∗ sem0 c 5
        ∗ sem0 c 6
        ∗ sem0 c 7
        ∗ sem0 c 8 ∗ ∃ W : Waits sig Unit, owes (c : Thread nD τ) 0 W)) := by
  have h := run_shift c arg0 harg0 f0 hw fP fL fU fD fZ W
  refine .trans ?_ ((sep_mono h (.rfl (P := (own c fullShare (slab mP 0 inb_S13x8x256x512_S1x8x256x512_0_0_0_0) fP : sProp 𝕄)))).trans ((wp_frame_r _ _ _).trans (wp_mono _ _ _ fun _ => ?_)))
  · rw [slabs_P, slabs_U, ← own_L, ← own_D, ← own_Z]
    iintro ⟨H0, ⟨P0, P1, P2, P3, P4, P5, P6, P7, P8, P9, P10, P11, P12⟩, L, ⟨U0, U1, U2, U3, U4, U5, U6, U7, U8, U9, U10, U11, U12⟩, D, Z, S1, S2, S3, S4, S5, S6, S7, S8, Ho⟩
    ihave X := (own_halves c (slab mP 1 inb_S13x8x256x512_S1x8x256x512_1_0_0_0) fP).1 $$ P1
    icases X with ⟨P1l, P1r⟩
    ihave X := (own_halves c mL fL).1 $$ L
    icases X with ⟨Ll, Lr⟩
    isplitr [P0]
    · isplitl [H0]; · iexact H0
      isplitl [P1l]; · iexact P1l
      isplitl [P2]; · iexact P2
      isplitl [P3]; · iexact P3
      isplitl [P4]; · iexact P4
      isplitl [P5]; · iexact P5
      isplitl [P6]; · iexact P6
      isplitl [P7]; · iexact P7
      isplitl [P8]; · iexact P8
      isplitl [P9]; · iexact P9
      isplitl [P10]; · iexact P10
      isplitl [P11]; · iexact P11
      isplitl [P12]; · iexact P12
      isplitl [Ll]; · iexact Ll
      isplitl [P1r]; · iexact P1r
      isplitl [Lr]; · iexact Lr
      isplitl [U0]; · iexact U0
      isplitl [U1]; · iexact U1
      isplitl [U2]; · iexact U2
      isplitl [U3]; · iexact U3
      isplitl [U4]; · iexact U4
      isplitl [U5]; · iexact U5
      isplitl [U6]; · iexact U6
      isplitl [U7]; · iexact U7
      isplitl [U8]; · iexact U8
      isplitl [U9]; · iexact U9
      isplitl [U10]; · iexact U10
      isplitl [U11]; · iexact U11
      isplitl [U12]; · iexact U12
      isplitl [D]; · iexact D
      isplitl [Z]; · iexact Z
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact Ho
    · iexact P0
  · rw [slabs_P, slabs_U, ← own_L, ← own_D, ← own_Z]
    rw [carried c 0 1 (by decide) (by decide) inb_S13x8x256x512_S1x8x256x512_0_0_0_0 inb_S13x8x256x512_S1x8x256x512_1_0_0_0 fP fU (moved (α := Elt F .f32) fP fL) (fun j => moved_place_lt _ _ ⟨0, by decide⟩ j (by decide))]
    rw [carried c 1 2 (by decide) (by decide) inb_S13x8x256x512_S1x8x256x512_1_0_0_0 inb_S13x8x256x512_S1x8x256x512_2_0_0_0 fP fU (moved (α := Elt F .f32) fP fL) (fun j => moved_place_lt _ _ ⟨1, by decide⟩ j (by decide))]
    rw [carried c 2 3 (by decide) (by decide) inb_S13x8x256x512_S1x8x256x512_2_0_0_0 inb_S13x8x256x512_S1x8x256x512_3_0_0_0 fP fU (moved (α := Elt F .f32) fP fL) (fun j => moved_place_lt _ _ ⟨2, by decide⟩ j (by decide))]
    rw [carried c 3 4 (by decide) (by decide) inb_S13x8x256x512_S1x8x256x512_3_0_0_0 inb_S13x8x256x512_S1x8x256x512_4_0_0_0 fP fU (moved (α := Elt F .f32) fP fL) (fun j => moved_place_lt _ _ ⟨3, by decide⟩ j (by decide))]
    rw [carried c 4 5 (by decide) (by decide) inb_S13x8x256x512_S1x8x256x512_4_0_0_0 inb_S13x8x256x512_S1x8x256x512_5_0_0_0 fP fU (moved (α := Elt F .f32) fP fL) (fun j => moved_place_lt _ _ ⟨4, by decide⟩ j (by decide))]
    rw [carried c 5 6 (by decide) (by decide) inb_S13x8x256x512_S1x8x256x512_5_0_0_0 inb_S13x8x256x512_S1x8x256x512_6_0_0_0 fP fU (moved (α := Elt F .f32) fP fL) (fun j => moved_place_lt _ _ ⟨5, by decide⟩ j (by decide))]
    rw [carried c 6 7 (by decide) (by decide) inb_S13x8x256x512_S1x8x256x512_6_0_0_0 inb_S13x8x256x512_S1x8x256x512_7_0_0_0 fP fU (moved (α := Elt F .f32) fP fL) (fun j => moved_place_lt _ _ ⟨6, by decide⟩ j (by decide))]
    rw [carried c 7 8 (by decide) (by decide) inb_S13x8x256x512_S1x8x256x512_7_0_0_0 inb_S13x8x256x512_S1x8x256x512_8_0_0_0 fP fU (moved (α := Elt F .f32) fP fL) (fun j => moved_place_lt _ _ ⟨7, by decide⟩ j (by decide))]
    rw [carried c 8 9 (by decide) (by decide) inb_S13x8x256x512_S1x8x256x512_8_0_0_0 inb_S13x8x256x512_S1x8x256x512_9_0_0_0 fP fU (moved (α := Elt F .f32) fP fL) (fun j => moved_place_lt _ _ ⟨8, by decide⟩ j (by decide))]
    rw [carried c 9 10 (by decide) (by decide) inb_S13x8x256x512_S1x8x256x512_9_0_0_0 inb_S13x8x256x512_S1x8x256x512_10_0_0_0 fP fU (moved (α := Elt F .f32) fP fL) (fun j => moved_place_lt _ _ ⟨9, by decide⟩ j (by decide))]
    rw [carried c 10 11 (by decide) (by decide) inb_S13x8x256x512_S1x8x256x512_10_0_0_0 inb_S13x8x256x512_S1x8x256x512_11_0_0_0 fP fU (moved (α := Elt F .f32) fP fL) (fun j => moved_place_lt _ _ ⟨10, by decide⟩ j (by decide))]
    rw [carried c 11 12 (by decide) (by decide) inb_S13x8x256x512_S1x8x256x512_11_0_0_0 inb_S13x8x256x512_S1x8x256x512_12_0_0_0 fP fU (moved (α := Elt F .f32) fP fL) (fun j => moved_place_lt _ _ ⟨11, by decide⟩ j (by decide))]
    rw [carried_L c 12 (by decide) inb_S13x8x256x512_S1x8x256x512_12_0_0_0 fL fU (moved (α := Elt F .f32) fP fL) (fun j => moved_place_last _ _ j)]
    rw [carried_D c 1 (by decide) inb_S13x8x256x512_S1x8x256x512_1_0_0_0 fP fD (slabOf (α := Elt F .f32) 0 (moved (α := Elt F .f32) fP fL)) (fun j => moved_place_lt _ _ ⟨0, by decide⟩ j (by decide))]
    rw [carried_LZ c fL fZ (slabOf (α := Elt F .f32) 12 (moved (α := Elt F .f32) fP fL)) (fun j => moved_place_last _ _ j)]
    iintro ⟨⟨H0, P1l, P2, P3, P4, P5, P6, P7, P8, P9, P10, P11, P12, Ll, P1r, Lr, U0, U1, U2, U3, U4, U5, U6, U7, U8, U9, U10, U11, U12, D, Z, S1, S2, S3, S4, S5, S6, S7, S8, Ho⟩, P0⟩
    ihave P1 := (own_halves c (slab mP 1 inb_S13x8x256x512_S1x8x256x512_1_0_0_0) fP).2 $$ [P1l P1r]
    · isplitl [P1l]; · iexact P1l
      iexact P1r
    ihave L := (own_halves c mL fL).2 $$ [Ll Lr]
    · isplitl [Ll]; · iexact Ll
      iexact Lr
    isplitl [H0]; · iexact H0
    isplitl [P0 P1 P2 P3 P4 P5 P6 P7 P8 P9 P10 P11 P12]
    · isplitl [P0]; · iexact P0
      isplitl [P1]; · iexact P1
      isplitl [P2]; · iexact P2
      isplitl [P3]; · iexact P3
      isplitl [P4]; · iexact P4
      isplitl [P5]; · iexact P5
      isplitl [P6]; · iexact P6
      isplitl [P7]; · iexact P7
      isplitl [P8]; · iexact P8
      isplitl [P9]; · iexact P9
      isplitl [P10]; · iexact P10
      isplitl [P11]; · iexact P11
      iexact P12
    isplitl [L]; · iexact L
    isplitl [U0 U1 U2 U3 U4 U5 U6 U7 U8 U9 U10 U11 U12]
    · isplitl [U0]; · iexact U0
      isplitl [U1]; · iexact U1
      isplitl [U2]; · iexact U2
      isplitl [U3]; · iexact U3
      isplitl [U4]; · iexact U4
      isplitl [U5]; · iexact U5
      isplitl [U6]; · iexact U6
      isplitl [U7]; · iexact U7
      isplitl [U8]; · iexact U8
      isplitl [U9]; · iexact U9
      isplitl [U10]; · iexact U10
      isplitl [U11]; · iexact U11
      iexact U12
    isplitl [D]; · iexact D
    isplitl [Z]; · iexact Z
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact Ho

set_option maxHeartbeats 1600000 in
/-- The step that keeps, over whole arrays: the updated state is the state. -/
theorem whole_keep (c : Dev nD) (arg0 : Memref sig .tc .smem S1 .i32) (harg0 : arg0.IsWhole)
    (f0 : Buf (Elt F) (arg0.view.loc (c : Thread nD τ)))
    (hw : (arg0.view.readAt (Elt F) (Rect.unit (s := S1) ![0] S1.size inb_S1_S1_0) f0) = fun _ => 0#32)
    (fP : Buf (Elt F) (mP.view.loc (c : Thread nD τ))) (fL : Buf (Elt F) (mL.view.loc (c : Thread nD τ)))
    (fU : Buf (Elt F) (mU.view.loc (c : Thread nD τ))) (fD : Buf (Elt F) (mD.view.loc (c : Thread nD τ)))
    (fZ : Buf (Elt F) (mZ.view.loc (c : Thread nD τ))) (W : Waits sig Unit) :
    iprop((arg0.view.loc (c : Thread nD τ) ↦[arg0.view.set]{fullShare} f0)
        ∗ (mP.view.loc (c : Thread nD τ) ↦{fullShare} fP) ∗ (mL.view.loc (c : Thread nD τ) ↦{fullShare} fL)
        ∗ (mU.view.loc (c : Thread nD τ) ↦{fullShare} fU) ∗ (mD.view.loc (c : Thread nD τ) ↦{fullShare} fD)
        ∗ (mZ.view.loc (c : Thread nD τ) ↦{fullShare} fZ)
        ∗ sem0 c 1
        ∗ sem0 c 2
        ∗ sem0 c 3
        ∗ sem0 c 4
        ∗ sem0 c 5
        ∗ sem0 c 6
        ∗ sem0 c 7
        ∗ sem0 c 8 ∗ owes (c : Thread nD τ) 0 W)
      ⊢ wp frame (wpE (defs₀ (F := F)) Variants.none (c : Thread nD τ) none) Set.univ
          (cc0__body arg0 harg0 mP (Memref.isWhole_whole _) mL (Memref.isWhole_whole _) mU (Memref.isWhole_whole _)
            mD (Memref.isWhole_whole _) mZ (Memref.isWhole_whole _) cc0_scratch0)
          (fun _ => iprop((arg0.view.loc (c : Thread nD τ) ↦[arg0.view.set]{fullShare} f0)
            ∗ (mP.view.loc (c : Thread nD τ) ↦{fullShare} fP) ∗ (mL.view.loc (c : Thread nD τ) ↦{fullShare} fL)
            ∗ (mU.view.loc (c : Thread nD τ) ↦{fullShare} (fP : Big.Idx → Elt F .f32))
            ∗ (mD.view.loc (c : Thread nD τ) ↦{fullShare} slabOf (α := Elt F .f32) 0 (fP))
            ∗ (mZ.view.loc (c : Thread nD τ) ↦{fullShare} slabOf (α := Elt F .f32) 12 (fP))
            ∗ sem0 c 1
        ∗ sem0 c 2
        ∗ sem0 c 3
        ∗ sem0 c 4
        ∗ sem0 c 5
        ∗ sem0 c 6
        ∗ sem0 c 7
        ∗ sem0 c 8 ∗ ∃ W : Waits sig Unit, owes (c : Thread nD τ) 0 W)) := by
  have h := run_keep c arg0 harg0 f0 hw fP fL fU fD fZ W
  refine .trans ?_ ((sep_mono h (.rfl (P := (own c fullShare mL fL : sProp 𝕄)))).trans ((wp_frame_r _ _ _).trans (wp_mono _ _ _ fun _ => ?_)))
  · rw [slabs_P, slabs_U, ← own_L, ← own_D, ← own_Z]
    iintro ⟨H0, ⟨P0, P1, P2, P3, P4, P5, P6, P7, P8, P9, P10, P11, P12⟩, L, ⟨U0, U1, U2, U3, U4, U5, U6, U7, U8, U9, U10, U11, U12⟩, D, Z, S1, S2, S3, S4, S5, S6, S7, S8, Ho⟩
    ihave X := (own_halves c (slab mP 0 inb_S13x8x256x512_S1x8x256x512_0_0_0_0) fP).1 $$ P0
    icases X with ⟨P0l, P0r⟩
    ihave X := (own_halves c (slab mP 12 inb_S13x8x256x512_S1x8x256x512_12_0_0_0) fP).1 $$ P12
    icases X with ⟨P12l, P12r⟩
    isplitr [L]
    · isplitl [H0]; · iexact H0
      isplitl [P0l]; · iexact P0l
      isplitl [P1]; · iexact P1
      isplitl [P2]; · iexact P2
      isplitl [P3]; · iexact P3
      isplitl [P4]; · iexact P4
      isplitl [P5]; · iexact P5
      isplitl [P6]; · iexact P6
      isplitl [P7]; · iexact P7
      isplitl [P8]; · iexact P8
      isplitl [P9]; · iexact P9
      isplitl [P10]; · iexact P10
      isplitl [P11]; · iexact P11
      isplitl [P12l]; · iexact P12l
      isplitl [P0r]; · iexact P0r
      isplitl [P12r]; · iexact P12r
      isplitl [U0]; · iexact U0
      isplitl [U1]; · iexact U1
      isplitl [U2]; · iexact U2
      isplitl [U3]; · iexact U3
      isplitl [U4]; · iexact U4
      isplitl [U5]; · iexact U5
      isplitl [U6]; · iexact U6
      isplitl [U7]; · iexact U7
      isplitl [U8]; · iexact U8
      isplitl [U9]; · iexact U9
      isplitl [U10]; · iexact U10
      isplitl [U11]; · iexact U11
      isplitl [U12]; · iexact U12
      isplitl [D]; · iexact D
      isplitl [Z]; · iexact Z
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact Ho
    · iexact L
  · rw [slabs_P, slabs_U, ← own_L, ← own_D, ← own_Z]
    rw [carried c 0 0 (by decide) (by decide) inb_S13x8x256x512_S1x8x256x512_0_0_0_0 inb_S13x8x256x512_S1x8x256x512_0_0_0_0 fP fU fP (fun j => rfl)]
    rw [carried c 1 1 (by decide) (by decide) inb_S13x8x256x512_S1x8x256x512_1_0_0_0 inb_S13x8x256x512_S1x8x256x512_1_0_0_0 fP fU fP (fun j => rfl)]
    rw [carried c 2 2 (by decide) (by decide) inb_S13x8x256x512_S1x8x256x512_2_0_0_0 inb_S13x8x256x512_S1x8x256x512_2_0_0_0 fP fU fP (fun j => rfl)]
    rw [carried c 3 3 (by decide) (by decide) inb_S13x8x256x512_S1x8x256x512_3_0_0_0 inb_S13x8x256x512_S1x8x256x512_3_0_0_0 fP fU fP (fun j => rfl)]
    rw [carried c 4 4 (by decide) (by decide) inb_S13x8x256x512_S1x8x256x512_4_0_0_0 inb_S13x8x256x512_S1x8x256x512_4_0_0_0 fP fU fP (fun j => rfl)]
    rw [carried c 5 5 (by decide) (by decide) inb_S13x8x256x512_S1x8x256x512_5_0_0_0 inb_S13x8x256x512_S1x8x256x512_5_0_0_0 fP fU fP (fun j => rfl)]
    rw [carried c 6 6 (by decide) (by decide) inb_S13x8x256x512_S1x8x256x512_6_0_0_0 inb_S13x8x256x512_S1x8x256x512_6_0_0_0 fP fU fP (fun j => rfl)]
    rw [carried c 7 7 (by decide) (by decide) inb_S13x8x256x512_S1x8x256x512_7_0_0_0 inb_S13x8x256x512_S1x8x256x512_7_0_0_0 fP fU fP (fun j => rfl)]
    rw [carried c 8 8 (by decide) (by decide) inb_S13x8x256x512_S1x8x256x512_8_0_0_0 inb_S13x8x256x512_S1x8x256x512_8_0_0_0 fP fU fP (fun j => rfl)]
    rw [carried c 9 9 (by decide) (by decide) inb_S13x8x256x512_S1x8x256x512_9_0_0_0 inb_S13x8x256x512_S1x8x256x512_9_0_0_0 fP fU fP (fun j => rfl)]
    rw [carried c 10 10 (by decide) (by decide) inb_S13x8x256x512_S1x8x256x512_10_0_0_0 inb_S13x8x256x512_S1x8x256x512_10_0_0_0 fP fU fP (fun j => rfl)]
    rw [carried c 11 11 (by decide) (by decide) inb_S13x8x256x512_S1x8x256x512_11_0_0_0 inb_S13x8x256x512_S1x8x256x512_11_0_0_0 fP fU fP (fun j => rfl)]
    rw [carried c 12 12 (by decide) (by decide) inb_S13x8x256x512_S1x8x256x512_12_0_0_0 inb_S13x8x256x512_S1x8x256x512_12_0_0_0 fP fU fP (fun j => rfl)]
    rw [carried_D c 0 (by decide) inb_S13x8x256x512_S1x8x256x512_0_0_0_0 fP fD (slabOf (α := Elt F .f32) 0 fP) (fun j => rfl)]
    rw [carried_Z c 12 (by decide) inb_S13x8x256x512_S1x8x256x512_12_0_0_0 fP fZ (slabOf (α := Elt F .f32) 12 fP) (fun j => rfl)]
    iintro ⟨⟨H0, P0l, P1, P2, P3, P4, P5, P6, P7, P8, P9, P10, P11, P12l, P0r, P12r, U0, U1, U2, U3, U4, U5, U6, U7, U8, U9, U10, U11, U12, D, Z, S1, S2, S3, S4, S5, S6, S7, S8, Ho⟩, L⟩
    ihave P0 := (own_halves c (slab mP 0 inb_S13x8x256x512_S1x8x256x512_0_0_0_0) fP).2 $$ [P0l P0r]
    · isplitl [P0l]; · iexact P0l
      iexact P0r
    ihave P12 := (own_halves c (slab mP 12 inb_S13x8x256x512_S1x8x256x512_12_0_0_0) fP).2 $$ [P12l P12r]
    · isplitl [P12l]; · iexact P12l
      iexact P12r
    isplitl [H0]; · iexact H0
    isplitl [P0 P1 P2 P3 P4 P5 P6 P7 P8 P9 P10 P11 P12]
    · isplitl [P0]; · iexact P0
      isplitl [P1]; · iexact P1
      isplitl [P2]; · iexact P2
      isplitl [P3]; · iexact P3
      isplitl [P4]; · iexact P4
      isplitl [P5]; · iexact P5
      isplitl [P6]; · iexact P6
      isplitl [P7]; · iexact P7
      isplitl [P8]; · iexact P8
      isplitl [P9]; · iexact P9
      isplitl [P10]; · iexact P10
      isplitl [P11]; · iexact P11
      iexact P12
    isplitl [L]; · iexact L
    isplitl [U0 U1 U2 U3 U4 U5 U6 U7 U8 U9 U10 U11 U12]
    · isplitl [U0]; · iexact U0
      isplitl [U1]; · iexact U1
      isplitl [U2]; · iexact U2
      isplitl [U3]; · iexact U3
      isplitl [U4]; · iexact U4
      isplitl [U5]; · iexact U5
      isplitl [U6]; · iexact U6
      isplitl [U7]; · iexact U7
      isplitl [U8]; · iexact U8
      isplitl [U9]; · iexact U9
      isplitl [U10]; · iexact U10
      isplitl [U11]; · iexact U11
      iexact U12
    isplitl [D]; · iexact D
    isplitl [Z]; · iexact Z
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact Ho

end Cert.Kernel.Hand

end
-- ==== Proof.Launch.lean ====
/- The whole program's run: the host operations, the kernel's one point, and what every array holds at the end. -/
module

public import proofs.«01_k».proof.Proof.Whole
public import Idealize.ShloMosaic.Lib.StableHlo.Run

@[expose] public section

set_option maxRecDepth 16384

noncomputable section

namespace Cert.Kernel.Hand

open Cert.Kernel Cert.Kernel.Gen Cert.Slabs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## The host operations' values -/

/-- The step's clock: the elapsed seconds and the step's, added. -/
def clock (c : Dev nD) : S_.Idx → Elt F .f32 :=
  addf (shapeCast S_ (m ((c : Thread nD τ).loc main_arg2)) shapeCasts_S1_S_) (sitofp .f32 (m ((c : Thread nD τ).loc main_arg3)))
/-- Whether the clock has reached an hour. -/
def late (c : Dev nD) : S_.Idx → Elt F .i1 := cmpf .oge (clock m c) (constant S_ .f32 0x45610000#32)
/-- The clock kept: less an hour when an hour is reached. -/
def kept (c : Dev nD) : S_.Idx → Elt F .f32 := select (late m c) (subf (clock m c) (constant S_ .f32 0x45610000#32)) (clock m c)

theorem V_main_v5 (c : Dev nD) : V m c main_v5 = kept m c := by
  unfold kept late clock
  simp only [V, hostOps0, hostOps0_1, hostOps0_2, StableHlo.TRef.ternary, StableHlo.TRef.toBuf, StableHlo.TRef.ofBuf, cast_eq, List.flatten_cons, List.flatten_nil, List.append_nil, List.cons_append, List.nil_append]
  after_results <;> rfl
theorem V_main_v7 (c : Dev nD) : V m c main_v7 = shapeCast S1 (extui 32 (late m c) natLt_1_32) shapeCasts_S_S1 := by
  unfold late clock
  simp only [V, hostOps0, hostOps0_1, hostOps0_2, StableHlo.TRef.ternary, StableHlo.TRef.toBuf, StableHlo.TRef.ofBuf, cast_eq, List.flatten_cons, List.flatten_nil, List.append_nil, List.cons_append, List.nil_append]
  after_results <;> rfl

/-- The one index of a scalar. -/
abbrev pt : S_.Idx := fun a => a.elim0

/-- The state after the step. -/
def stepped (c : Dev nD) : Big.Idx → Elt F .f32 :=
  if late m c pt = 1#1 then moved (α := Elt F .f32) (V m c main_arg0) (V m c main_arg1) else V m c main_arg0

/-! ## The launch's data -/

/-- The kernel's own semaphores. -/
abbrev osem0 : Fin 8 → SemLoc sig :=
  fun j => (![SemLoc.dma 1, SemLoc.dma 2, SemLoc.dma 3, SemLoc.dma 4, SemLoc.dma 5, SemLoc.dma 6, SemLoc.dma 7, SemLoc.dma 8] : Fin 8 → SemLoc sig) j
theorem ownSemFacts0 : Pipeline.OwnSemFacts spec0 osem0 := by decide
theorem ownSems00_eq (c : Dev nD) :
    (Pipeline.ownSems0 (Ix := Unit) (Name := ℕ) (U := Pipeline.UC sig nD τ) (Lvl := ℕ) (Val := Elt F) (τ := τ) osem0 c : sProp 𝕄)
      = iprop(sem0 c 1 ∗ sem0 c 2 ∗ sem0 c 3 ∗ sem0 c 4 ∗ sem0 c 5 ∗ sem0 c 6 ∗ sem0 c 7 ∗ sem0 c 8) := by
  rw [Pipeline.ownSems0_eq_of_list c osem0 [0, 1, 2, 3, 4, 5, 6, 7] (by decide) (by decide)]; rfl

/-- The arrays the kernel's own copies read and write. -/
abbrev R : Finset (Ref sig .tc) := {main_arg0, main_arg1, main_v8_0, main_v8_1, main_v8_2}
theorem R_sub : R ⊆ Pipeline.restRefs sig spec0 := by decide

theorem routed_eq (c : Dev nD) (W : (b : Ref sig .tc) → Buf (Elt F) ((c.tc : Thread nD τ).loc b)) :
    (Pipeline.routed R c W : sProp 𝕄)
      = iprop(((c : Thread nD τ).loc main_arg0 ↦{fullShare} W main_arg0) ∗ ((c : Thread nD τ).loc main_arg1 ↦{fullShare} W main_arg1)
          ∗ ((c : Thread nD τ).loc main_v8_0 ↦{fullShare} W main_v8_0) ∗ ((c : Thread nD τ).loc main_v8_1 ↦{fullShare} W main_v8_1)
          ∗ ((c : Thread nD τ).loc main_v8_2 ↦{fullShare} W main_v8_2)) := by
  unfold Pipeline.routed
  rw [BI.bigSep_eq_bigSepL_of_eq [main_arg0, main_arg1, main_v8_0, main_v8_1, main_v8_2] (by decide) (by decide)]; rfl

/-- What the arrays hold when the kernel is done. -/
def Y (c : Dev nD) : (b : Ref sig .tc) → Buf (Elt F) ((c.tc : Thread nD τ).loc b) :=
  Function.update (Function.update (Function.update (V m c) main_v8_0 (stepped m c))
    main_v8_1 (slabOf (α := Elt F .f32) 0 (stepped m c))) main_v8_2 (slabOf (α := Elt F .f32) 12 (stepped m c))
theorem Y_arg0 (c : Dev nD) : Y m c main_arg0 = V m c main_arg0 := by
  unfold Y
  rw [Function.update_of_ne (by decide), Function.update_of_ne (by decide), Function.update_of_ne (by decide)]
theorem Y_arg1 (c : Dev nD) : Y m c main_arg1 = V m c main_arg1 := by
  unfold Y
  rw [Function.update_of_ne (by decide), Function.update_of_ne (by decide), Function.update_of_ne (by decide)]
theorem Y_v8_0 (c : Dev nD) : Y m c main_v8_0 = stepped m c := by
  unfold Y
  rw [Function.update_of_ne (by decide), Function.update_of_ne (by decide), Function.update_self]
theorem Y_v8_1 (c : Dev nD) : Y m c main_v8_1 = slabOf (α := Elt F .f32) 0 (stepped m c) := by
  unfold Y
  rw [Function.update_of_ne (by decide), Function.update_self]
theorem Y_v8_2 (c : Dev nD) : Y m c main_v8_2 = slabOf (α := Elt F .f32) 12 (stepped m c) := by
  unfold Y
  rw [Function.update_self]

/-- The pipeline's proof data: the one window is read and left in place; the arrays go from their launch contents to `Y`. -/
def dats (_ : Fin 1) (c : Dev nD) : Dat τ (Elt F) Unit ℕ (Pipeline.UC sig nD τ) ℕ cfg0 c where
  A w := V m c (Pipeline.arrRef spec0 w)
  after w t := match w with | ⟨0, _⟩ => iblk m c 0 t
  Φ i := if i.val = 0 then Pipeline.Ends spec0 osem0 R c (V m c) else Pipeline.Ends spec0 osem0 R c (Y m c)
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem phi_first (c : Dev nD) (t : Fin cfg0.N) : (dats m 0 c).Φ t.castSucc = Pipeline.Ends spec0 osem0 R c (V m c) := by
  dsimp only [dats]
  rw [fin_N0 t]
  exact if_pos rfl
theorem phi_last (c : Dev nD) (t : Fin cfg0.N) : (dats m 0 c).Φ t.succ = Pipeline.Ends spec0 osem0 R c (Y m c) := by
  dsimp only [dats]
  exact if_neg (Nat.succ_ne_zero _)

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- The shift word, read off the window at the one point. -/
theorem word_eq (c : Dev nD) (t : Fin cfg0.N) (i) : iblk m c 0 t i = (late m c pt).setWidth 32 := by
  unfold iblk
  show (V m c main_v7) _ = _
  rw [V_main_v7]
  unfold shapeCast
  exact congrArg (fun a => (late m c a).setWidth 32) (funext fun a => a.elim0)

/-! ## The body at the one point -/

abbrev ms0_0 (t : Fin cfg0.N) := win0_0.stage (cfg0.slots t 0)
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

/-- The body over whole arrays, whichever way the shift word goes. -/
theorem whole_step (c : Dev nD) (t : Fin cfg0.N)
    (f0 : Buf (Elt F) ((ms0_0 t).view.loc (c : Thread nD τ))) (h0 : (ms0_0 t).view.read (Elt F) f0 = iblk m c 0 t) (W : Waits sig Unit) :
    iprop(((ms0_0 t).view.loc (c : Thread nD τ) ↦[(ms0_0 t).view.set]{fullShare} f0)
        ∗ (mP.view.loc (c : Thread nD τ) ↦{fullShare} V m c main_arg0) ∗ (mL.view.loc (c : Thread nD τ) ↦{fullShare} V m c main_arg1)
        ∗ (mU.view.loc (c : Thread nD τ) ↦{fullShare} V m c main_v8_0) ∗ (mD.view.loc (c : Thread nD τ) ↦{fullShare} V m c main_v8_1)
        ∗ (mZ.view.loc (c : Thread nD τ) ↦{fullShare} V m c main_v8_2)
        ∗ sem0 c 1 ∗ sem0 c 2 ∗ sem0 c 3 ∗ sem0 c 4 ∗ sem0 c 5 ∗ sem0 c 6 ∗ sem0 c 7 ∗ sem0 c 8 ∗ owes (c : Thread nD τ) 0 W)
      ⊢ wp frame (wpE (defs₀ (F := F)) Variants.none (c : Thread nD τ) none) Set.univ (bodyAt0 t)
          (fun _ => iprop(((ms0_0 t).view.loc (c : Thread nD τ) ↦[(ms0_0 t).view.set]{fullShare} f0)
            ∗ (mP.view.loc (c : Thread nD τ) ↦{fullShare} V m c main_arg0) ∗ (mL.view.loc (c : Thread nD τ) ↦{fullShare} V m c main_arg1)
            ∗ (mU.view.loc (c : Thread nD τ) ↦{fullShare} stepped m c)
            ∗ (mD.view.loc (c : Thread nD τ) ↦{fullShare} slabOf (α := Elt F .f32) 0 (stepped m c))
            ∗ (mZ.view.loc (c : Thread nD τ) ↦{fullShare} slabOf (α := Elt F .f32) 12 (stepped m c))
            ∗ sem0 c 1 ∗ sem0 c 2 ∗ sem0 c 3 ∗ sem0 c 4 ∗ sem0 c 5 ∗ sem0 c 6 ∗ sem0 c 7 ∗ sem0 c 8 ∗ ∃ W : Waits sig Unit, owes (c : Thread nD τ) 0 W)) := by
  have hr : ((ms0_0 t).view.readAt (Elt F) (Rect.unit (s := S1) ![0] S1.size inb_S1_S1_0) f0) = fun _ => (late m c pt).setWidth 32 := by
    funext x
    refine (congrFun h0 _).trans ?_
    exact word_eq m c t _
  by_cases hb : late m c pt = 1#1
  · have hs : stepped m c = moved (α := Elt F .f32) (V m c main_arg0) (V m c main_arg1) := if_pos hb
    rw [hb] at hr
    rw [hs]
    exact whole_shift c (ms0_0 t) (hstage0_0 0) f0 hr (V m c main_arg0) (V m c main_arg1) (V m c main_v8_0) (V m c main_v8_1) (V m c main_v8_2) W
  · have hs : stepped m c = V m c main_arg0 := if_neg hb
    have hz : late m c pt = 0#1 := (BitVec.eq_zero_or_eq_one _).resolve_right hb
    rw [hz] at hr
    rw [hs]
    exact whole_keep c (ms0_0 t) (hstage0_0 0) f0 hr (V m c main_arg0) (V m c main_arg1) (V m c main_v8_0) (V m c main_v8_1) (V m c main_v8_2) W

set_option maxHeartbeats 800000 in
/-- The body's triple at the point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  rw [phi_first, phi_last]
  unfold Dat.owesAt Pipeline.owesWithin Pipeline.Ends owns
  rw [show (dats m 0 c).owed t.castSucc = 0 from rfl, show (dats m 0 c).owed t.succ = 0 from rfl, after0_0, routed_eq, routed_eq,
    ownSems00_eq, scopedRest0_eq, Y_arg0, Y_arg1, Y_v8_0, Y_v8_1, Y_v8_2]
  iintro ⟨⟨⟨HP, HL, HU, HD, HZ⟩, ⟨S1, S2, S3, S4, S5, S6, S7, S8⟩, He, Hr⟩, ⟨%W, -, Ho⟩, ⟨%d, ⟨%f0, %h0, H0⟩⟩⟩
  rw [before0_0] at h0
  iapply (wp_wand_r _ _ _)
  isplitr [He Hr]
  · iapply (whole_step m c t f0 h0 W)
    isplitl [H0]; · iexact H0
    isplitl [HP]; · iexact HP
    isplitl [HL]; · iexact HL
    isplitl [HU]; · iexact HU
    isplitl [HD]; · iexact HD
    isplitl [HZ]; · iexact HZ
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact Ho
  · iintro %a ⟨H0, HP, HL, HU, HD, HZ, S1, S2, S3, S4, S5, S6, S7, S8, ⟨%W', Ho⟩⟩
    isplitl [HP HL HU HD HZ S1 S2 S3 S4 S5 S6 S7 S8 He Hr]
    · isplitl [HP HL HU HD HZ]
      · isplitl [HP]; · iexact HP
        isplitl [HL]; · iexact HL
        isplitl [HU]; · iexact HU
        isplitl [HD]; · iexact HD
        iexact HZ
      isplitl [S1 S2 S3 S4 S5 S6 S7 S8]
      · isplitl [S1]; · iexact S1
        isplitl [S2]; · iexact S2
        isplitl [S3]; · iexact S3
        isplitl [S4]; · iexact S4
        isplitl [S5]; · iexact S5
        isplitl [S6]; · iexact S6
        isplitl [S7]; · iexact S7
        iexact S8
      isplitl [He]; · iexact He
      iexact Hr
    isplitl [Ho]
    · iexists W'
      isplitr
      · ipureintro; exact fun _ _ => Or.inl trivial
      iexact Ho
    · iexists f0
      isplitr
      · ipureintro; exact h0
      iexact H0

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

set_option maxHeartbeats 800000 in
theorem hmain_uc : Pipeline.HMain (Ix := Unit) (Name := ℕ) (U := Pipeline.UC sig nD τ) (Lvl := ℕ) cfgs 0 defs₀ Variants.none m (main (F := F)) (V m) :=
  Pipeline.hmain_prefixes cfgs 0 defs₀ Variants.none m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The run -/

/-- What the program leaves on core `c`. -/
def Left (c : Dev nD) (r : PUnit × MemSt nD τ sig (Elt F)) : Prop :=
  r.2.mem ((c.tc : Thread nD τ).loc main_v8_0) = stepped m c
    ∧ r.2.mem ((c.tc : Thread nD τ).loc main_v8_1) = slabOf (α := Elt F .f32) 0 (stepped m c)
    ∧ r.2.mem ((c.tc : Thread nD τ).loc main_v8_2) = slabOf (α := Elt F .f32) 12 (stepped m c)
    ∧ r.2.mem ((c.tc : Thread nD τ).loc main_v5) = kept m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

theorem rest_mem (b : Ref sig .tc) (h : b ∈ Pipeline.restRefs sig spec0) (h' : b ∉ R) : b ∈ Pipeline.restRefs sig spec0 \ R :=
  Finset.mem_sdiff.mpr ⟨h, h'⟩

set_option backward.isDefEq.respectTransparency.types false in
/-- Every run of the program ends, with every counter at zero and the arrays as stated. -/
theorem run_main : θ_run (defs (F := F)) (onTc (τ := τ) (main (F := F))) ⟨m, fun _ => 0, ρ⟩
    (fun r => (∀ c : Dev nD, Left m c r) ∧ r.2.sem = fun _ => 0) :=
  Pipeline.θ_run_frame_routed (Q' := _) cfgs (dats m) (0 : Fin 1) launch0 ownSemFacts0 defs₀ Variants.none m ρ main
    (hbody := fun c => (body_obligation m c).loose) (hshare := fun c => (dats m 0 c).share_full fun _ => rfl)
    (howed := fun _ _ => rfl) (V := V m) (hmain := hmain_uc m) (hA := A_eq m) R R_sub (Y m)
    (hin := fun c => by
      have h : (dats m 0 c).Φ 0 = Pipeline.Ends spec0 osem0 R c (V m c) := by dsimp only [dats]; exact if_pos rfl
      exact Entails.of_eq h.symm)
    (hout := fun c => by
      have h : (dats m 0 c).Φ (Fin.last cfg0.N) = Pipeline.Ends spec0 osem0 R c (Y m c) := phi_last m c t0_0
      exact Entails.of_eq h)
    (hQ' := fun r ⟨h, hs⟩ => ⟨fun c => by
      obtain ⟨-, hR, hV⟩ := h c
      exact ⟨(hR main_v8_0 (by decide)).trans (Y_v8_0 m c), (hR main_v8_1 (by decide)).trans (Y_v8_1 m c),
        (hR main_v8_2 (by decide)).trans (Y_v8_2 m c),
        (hV main_v5 (rest_mem _ (Pipeline.mem_restRefs_of main_v5 (by decide) (by decide)) (by decide))).trans (V_main_v5 m c),
        ((hR main_arg0 (by decide)).trans (Y_arg0 m c)).trans (V_main_arg0 m c),
        ((hR main_arg1 (by decide)).trans (Y_arg1 m c)).trans (V_main_arg1 m c),
        (hV main_arg2 (rest_mem _ (Pipeline.mem_restRefs_of main_arg2 (by decide) (by decide)) (by decide))).trans (V_main_arg2 m c),
        (hV main_arg3 (rest_mem _ (Pipeline.mem_restRefs_of main_arg3 (by decide) (by decide)) (by decide))).trans (V_main_arg3 m c)⟩, hs⟩)

end Cert.Kernel.Hand

end
-- ==== Proof.Twin.lean ====
/- The idealized program is the program's own text: the run proved for any carrier of the floats is its run too. -/
module

public import proofs.«01_k».proof.Proof.Launch
public import proofs.«01_k».proof.Proof.Gen.KernelIdeal.Frame

@[expose] public section

set_option maxRecDepth 16384

noncomputable section

namespace Cert.KernelIdeal.Hand

open Cert.KernelIdeal
open Idealize.ShloMosaic Idealize.ShloMosaic.TcCoe Idealize.SL.Sem

variable {F : FTy → Type} [FloatOps F]

theorem rows_same : (Cert.KernelIdeal.defs₀ (F := F)) = Cert.Kernel.defs₀ := by
  unfold Cert.KernelIdeal.defs₀ Cert.Kernel.defs₀
  refine congrArg Defs.onTc (funext fun l => funext fun a => ?_)
  match l, a with
  | 0, (t, s) => rfl
  | ⟨_ + 1, h⟩, _ => exact absurd h (Nat.not_lt.2 (Nat.le_add_left _ _))

theorem defs_same : (Cert.KernelIdeal.defs (F := F)) = Cert.Kernel.defs :=
  congrArg (fun d => Pipeline.defs (Cert.Kernel.pcfgs (F := F)) d) rows_same

theorem main_same : (Cert.KernelIdeal.main (F := F)) = Cert.Kernel.main := rfl

/-- Every run of the idealized program ends as the program's does. -/
theorem run_main (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, Cert.Kernel.Hand.Left m c r) ∧ r.2.sem = fun _ => 0) := by
  have h := Cert.Kernel.Hand.run_main (F := F) m ρ
  rw [← defs_same, ← main_same] at h
  exact h

end Cert.KernelIdeal.Hand

end
-- ==== Proof.Reference.lean ====
/- The reference's results are the kernel's: its concatenation is the state moved down one place, its two cuts the first and the
   last slab of the updated state. -/
module

public import proofs.«01_k».proof.Proof.Launch
public import proofs.«01_k».proof.Proof.Gen.ReferenceIdeal.Run

@[expose] public section

set_option maxRecDepth 16384

noncomputable section

namespace Cert.ReferenceIdeal.Hand

open Cert.ReferenceIdeal Cert.ReferenceIdeal.Gen Cert.Slabs
open Idealize.ShloMosaic Idealize.ShloMosaic.TcCoe Idealize.SL.Sem
open Cert.Kernel.Hand (stepped kept late clock pt)

variable {F : FTy → Type} [FloatOps F]

/-- One bit for every element: the choice is made once for the whole array. -/
theorem choose_eq {α : Type} (b : (⟨0, ![]⟩ : Shape).Idx → BitVec 1) (h : (⟨0, ![]⟩ : Shape).BroadcastsInDim Big ![]) (x y : Big.Idx → α) :
    select (broadcastInDim Big ![] h b) x y = if b (fun a => a.elim0) = 1#1 then x else y := by
  have hb : ∀ i, broadcastInDim Big ![] h b i = b (fun a => a.elim0) := fun i => congrArg b (funext fun a => a.elim0)
  funext i
  unfold select Scalar.select
  rw [hb i]
  by_cases hc : b (fun a => a.elim0) = 1#1
  · rw [if_pos hc]; exact if_pos hc
  · rw [if_neg hc]; exact if_neg hc

/-- The reference's run, from arguments the kernel's memory agrees with. -/
theorem run_same (m : (ℓ : Loc Cert.Kernel.nD Cert.Kernel.τ Cert.Kernel.sig) → Buf (Elt F) ℓ)
    (m' : (ℓ : Loc nD τ sig) → Buf (Elt F) ℓ) (ρ : Dev nD → PrngReg)
    (ha : ∀ c : Dev nD, m' ((c.tc : Thread nD τ).loc main_arg0) = m ((c.tc : Thread Cert.Kernel.nD Cert.Kernel.τ).loc Cert.Kernel.main_arg0)
      ∧ m' ((c.tc : Thread nD τ).loc main_arg1) = m ((c.tc : Thread Cert.Kernel.nD Cert.Kernel.τ).loc Cert.Kernel.main_arg1)
      ∧ m' ((c.tc : Thread nD τ).loc main_arg2) = m ((c.tc : Thread Cert.Kernel.nD Cert.Kernel.τ).loc Cert.Kernel.main_arg2)
      ∧ m' ((c.tc : Thread nD τ).loc main_arg3) = m ((c.tc : Thread Cert.Kernel.nD Cert.Kernel.τ).loc Cert.Kernel.main_arg3)) :
    θ_run (defs (F := F)) (onTc (τ := τ) (main (F := F))) ⟨m', fun _ => 0, ρ⟩ fun r => ∀ c : Dev nD,
      r.2.mem ((c.tc : Thread nD τ).loc main_v9) = stepped m c
      ∧ r.2.mem ((c.tc : Thread nD τ).loc main_v11) = slabOf (α := Elt F .f32) 0 (stepped m c)
      ∧ r.2.mem ((c.tc : Thread nD τ).loc main_v13) = slabOf (α := Elt F .f32) 12 (stepped m c)
      ∧ r.2.mem ((c.tc : Thread nD τ).loc main_v5) = kept m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) := by
  refine (θ_run defs _ _).mono (fun r h c => ?_) (Value.run (F := F) m' ρ)
  obtain ⟨h9, h11, h13, h5, hargs⟩ := h c
  obtain ⟨a0, a1, a2, a3⟩ := ha c
  rw [a0, a1, a2, a3] at h9 h11 h13
  rw [a2, a3] at h5
  have hl : (cmpf .oge (addf (shapeCast S_ (m ((c.tc : Thread Cert.Kernel.nD Cert.Kernel.τ).loc Cert.Kernel.main_arg2)) shapeCasts_S1_S_)
      (sitofp .f32 (m ((c.tc : Thread Cert.Kernel.nD Cert.Kernel.τ).loc Cert.Kernel.main_arg3)))) (constant S_ .f32 0x45610000#32)) = late m c := rfl
  rw [hl, choose_eq, join_eq] at h9 h11 h13
  have hs : (if late m c pt = 1#1
      then moved (α := Elt F .f32) (m ((c.tc : Thread Cert.Kernel.nD Cert.Kernel.τ).loc Cert.Kernel.main_arg0))
        (m ((c.tc : Thread Cert.Kernel.nD Cert.Kernel.τ).loc Cert.Kernel.main_arg1))
      else m ((c.tc : Thread Cert.Kernel.nD Cert.Kernel.τ).loc Cert.Kernel.main_arg0)) = stepped m c := by
    unfold stepped
    rw [Cert.Kernel.Gen.V_main_arg0, Cert.Kernel.Gen.V_main_arg1]
  refine ⟨h9.trans hs, h11.trans ?_, h13.trans ?_, h5, hargs⟩
  · exact funext fun j => (cut_apply 0 _ rfl _ _ _ j).trans (congrFun hs _)
  · exact funext fun j => (cut_apply 12 _ rfl _ _ _ j).trans (congrFun hs _)

end Cert.ReferenceIdeal.Hand

end
-- ==== Proof.lean ====
/- The claims about the program and its reference, put together from the runs of both. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Twin
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The program on the chip's floats: every run ends, arguments unchanged, counters at zero. -/
theorem quiet_kernel : Cert.quiescent_Kernel := by
  intro m g _
  exact (θ_run Cert.Kernel.defs _ _).mono (fun r h => ⟨fun c => (h.1 c).2.2.2.2, h.2⟩) (Cert.Kernel.Hand.run_main (F := Bits) m g)

/-- The program over the extended reals. -/
theorem quiet_ideal : Cert.quiescent_KernelIdeal := by
  intro m g _
  exact (θ_run Cert.KernelIdeal.defs _ _).mono (fun r h => ⟨fun c => (h.1 c).2.2.2.2, h.2⟩) (Cert.KernelIdeal.Hand.run_main (F := Ideal) m g)

/-- The reference over the extended reals; it has no semaphore. -/
theorem quiet_reference : Cert.quiescent_ReferenceIdeal := by
  intro m g _
  exact (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m g)

/-- The two programs' results are equal: the updated state, its first and last slab, and the clock. -/
theorem equal_results : Cert.algebraic_KernelIdeal_ReferenceIdeal := by
  intro m g m' g' _ ha
  refine ⟨fun c => Cert.Kernel.Hand.stepped (F := Ideal) m c, fun c => Cert.Slabs.slabOf (α := Elt Ideal .f32) 0 (Cert.Kernel.Hand.stepped (F := Ideal) m c),
    fun c => Cert.Slabs.slabOf (α := Elt Ideal .f32) 12 (Cert.Kernel.Hand.stepped (F := Ideal) m c), fun c => Cert.Kernel.Hand.kept (F := Ideal) m c, ?_, ?_⟩
  · exact (θ_run Cert.KernelIdeal.defs _ _).mono (fun r h => h.1) (Cert.KernelIdeal.Hand.run_main (F := Ideal) m g)
  · exact Cert.ReferenceIdeal.Hand.run_same (F := Ideal) m m' g' ha

/-- The reference on the chip's floats. -/
theorem quiet_reference_bits : Cert.quiescent_Reference := by
  intro m g _
  exact (θ_run Cert.Reference.defs _ _).mono
    (fun r h => ⟨fun c => (h c).2.2.2.2, Idealize.ShloMosaic.sem_eq_zero_of_no_sems (by decide) r.2⟩)
    (Cert.Reference.Value.run (F := Bits) m g)

/-- The same equality bit for bit: the program and the reference on the chip's floats. -/
theorem equal_bits : Cert.bitexact_Kernel_Reference := by
  intro m g m' g' _ ha
  refine ⟨fun c => Cert.Kernel.Hand.stepped (F := Bits) m c, fun c => Cert.Slabs.slabOf (α := Elt Bits .f32) 0 (Cert.Kernel.Hand.stepped (F := Bits) m c),
    fun c => Cert.Slabs.slabOf (α := Elt Bits .f32) 12 (Cert.Kernel.Hand.stepped (F := Bits) m c), fun c => Cert.Kernel.Hand.kept (F := Bits) m c, ?_, ?_⟩
  · exact (θ_run Cert.Kernel.defs _ _).mono (fun r h => h.1) (Cert.Kernel.Hand.run_main (F := Bits) m g)
  · exact Cert.ReferenceIdeal.Hand.run_same (F := Bits) m m' g' ha

theorem claim : Cert.Claim := ⟨Cert.Kernel.Gen.facts, Cert.KernelIdeal.Gen.facts, Cert.ReferenceIdeal.Gen.facts, Cert.Reference.Gen.facts,
  quiet_kernel, quiet_ideal, quiet_reference, quiet_reference_bits, trivial, equal_results, equal_bits⟩

end Cert.Proof

end
